-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![256, 128]⟩ ⟨2, ![2048, 128]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![256, 2]⟩ ⟨2, ![2048, 2]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 128, 256]⟩ ⟨3, ![16, 128, 256]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![2048, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v76) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S256x128 : Shape := ⟨2, ![256, 128]⟩
abbrev S128x16 : Shape := ⟨2, ![128, 16]⟩
abbrev S256x2 : Shape := ⟨2, ![256, 2]⟩
abbrev S2x128x256 : Shape := ⟨3, ![2, 128, 256]⟩
abbrev S_ : Shape := ⟨0, ![]⟩

class Facts : Prop where
  bcast_S_S256x128 : S_.BroadcastsInDim S256x128 (![] : Fin 0 → Fin S256x128.rank)
  reducesTo_S256x128_S_d0_1 : S256x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_

variable [Facts]

def fn {F : FTy → Type} [FloatOps F] (main_arg0 : FVec F S256x128 .f32) (main_arg1 : FVec F S128x16 .f32) (main_arg2 : IVec S256x2 32) (main_arg3 : FVec F S2x128x256 .f32) : IVec S_ 1 :=
  let main_v0 : FVec F S256x128 .f32 := Host.absf main_arg0
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  let main_c : IVec S_ 1 := constantI S_ 1 1#1
  let main_v3 : IVec S_ 1 := (fun x v => Host.reduce IntOp.andi x v reducesTo_S256x128_S_d0_1 h_S_) main_v2 main_c
  let main_v4 : FVec F S128x16 .f32 := Host.absf main_arg1
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  main_v8
-- ==== Pre_finite_ReferenceIdeal.lean ====
abbrev S2048x128 : Shape := ⟨2, ![2048, 128]⟩
abbrev S128x16 : Shape := ⟨2, ![128, 16]⟩
abbrev S2048x2 : Shape := ⟨2, ![2048, 2]⟩
abbrev S16x128x256 : Shape := ⟨3, ![16, 128, 256]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_

variable [Facts]

def fn {F : FTy → Type} [FloatOps F] (main_arg0 : FVec F S2048x128 .f32) (main_arg1 : FVec F S128x16 .f32) (main_arg2 : IVec S2048x2 32) (main_arg3 : FVec F S16x128x256 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S128x16 .f32 := Host.absf main_arg1
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  main_v8
-- ==== Kernel.lean ====
abbrev S256x128 : Shape := ⟨2, ![256, 128]⟩
abbrev S128x16 : Shape := ⟨2, ![128, 16]⟩
abbrev S256x2 : Shape := ⟨2, ![256, 2]⟩
abbrev S2x128x256 : Shape := ⟨3, ![2, 128, 256]⟩
abbrev S256x256 : Shape := ⟨2, ![256, 256]⟩
abbrev S7x2x128x256 : Shape := ⟨4, ![7, 2, 128, 256]⟩
abbrev S7 : Shape := ⟨1, ![7]⟩
abbrev S_ : Shape := ⟨0, ![]⟩
abbrev S1 : Shape := ⟨1, ![1]⟩
abbrev S1x2x128x256 : Shape := ⟨4, ![1, 2, 128, 256]⟩
abbrev S256x16 : Shape := ⟨2, ![256, 16]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S256x128, .f32⟩
  | .hbm, ⟨1, _⟩ => ⟨S128x16, .f32⟩
  | .hbm, ⟨2, _⟩ => ⟨S256x2, .i32⟩
  | .hbm, ⟨3, _⟩ => ⟨S2x128x256, .f32⟩
  | .hbm, ⟨4, _⟩ => ⟨S256x256, .f32⟩
  | .local _ .vmem, ⟨0, _⟩ => ⟨S256x128, .f32⟩
  | .local _ .vmem, ⟨1, _⟩ => ⟨S128x16, .f32⟩
  | .local _ .vmem, ⟨2, _⟩ => ⟨S256x2, .i32⟩
  | .local _ .vmem, ⟨3, _⟩ => ⟨S2x128x256, .f32⟩
  | .local _ .vmem, ⟨4, _⟩ => ⟨S256x256, .f32⟩
  | .local _ .vmem, ⟨5, _⟩ => ⟨S2x128x256, .bf16⟩
  | .local _ .vmem, ⟨6, _⟩ => ⟨S7x2x128x256, .bf16⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.addi v2 c1_i32_5
  let c8_i32_6 : BitVec 32 := 8#32
  let v11 : BitVec 32 := Scalar.remsi v10 c8_i32_6
  let c1_i32_8 : BitVec 32 := 1#32
  let v12 : BitVec 32 := Scalar.muli v11 c1_i32_8
  let v13 : BitVec 32 := Scalar.addi c0_i32 v12
  v13.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v14 : BitVec 32 := Scalar.addi v2 c2_i32
  let c8_i32_9 : BitVec 32 := 8#32
  let v15 : BitVec 32 := Scalar.remsi v14 c8_i32_9
  let c1_i32_11 : BitVec 32 := 1#32
  let v16 : BitVec 32 := Scalar.muli v15 c1_i32_11
  let v17 : BitVec 32 := Scalar.addi c0_i32_12 v16
  v17.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v18 : BitVec 32 := Scalar.addi v2 c3_i32
  let c8_i32_13 : BitVec 32 := 8#32
  let v19 : BitVec 32 := Scalar.remsi v18 c8_i32_13
  let c1_i32_15 : BitVec 32 := 1#32
  let v20 : BitVec 32 := Scalar.muli v19 c1_i32_15
  let v21 : BitVec 32 := Scalar.addi c0_i32_16 v20
  v21.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v22 : BitVec 32 := Scalar.addi v2 c4_i32
  let c8_i32_17 : BitVec 32 := 8#32
  let v23 : BitVec 32 := Scalar.remsi v22 c8_i32_17
  let c1_i32_19 : BitVec 32 := 1#32
  let v24 : BitVec 32 := Scalar.muli v23 c1_i32_19
  let v25 : BitVec 32 := Scalar.addi c0_i32_20 v24
  v25.toNat
def k0_dev5 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v26 : BitVec 32 := Scalar.addi v2 c5_i32
  let c8_i32_21 : BitVec 32 := 8#32
  let v27 : BitVec 32 := Scalar.remsi v26 c8_i32_21
  let c1_i32_23 : BitVec 32 := 1#32
  let v28 : BitVec 32 := Scalar.muli v27 c1_i32_23
  let v29 : BitVec 32 := Scalar.addi c0_i32_24 v28
  v29.toNat
def k0_dev6 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v30 : BitVec 32 := Scalar.addi v2 c6_i32
  let c8_i32_25 : BitVec 32 := 8#32
  let v31 : BitVec 32 := Scalar.remsi v30 c8_i32_25
  let c1_i32_27 : BitVec 32 := 1#32
  let v32 : BitVec 32 := Scalar.muli v31 c1_i32_27
  let v33 : BitVec 32 := Scalar.addi c0_i32_28 v32
  v33.toNat
def k0_dev7 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v34 : BitVec 32 := Scalar.addi v2 c7_i32
  let c8_i32_29 : BitVec 32 := 8#32
  let v35 : BitVec 32 := Scalar.remsi v34 c8_i32_29
  let c1_i32_31 : BitVec 32 := 1#32
  let v36 : BitVec 32 := Scalar.muli v35 c1_i32_31
  let v37 : BitVec 32 := Scalar.addi c0_i32_32 v36
  v37.toNat
def k0_dev8 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_34 : BitVec 32 := 1#32
  let v38 : BitVec 32 := Scalar.addi v2 c1_i32_34
  let c8_i32_35 : BitVec 32 := 8#32
  let v39 : BitVec 32 := Scalar.remsi v38 c8_i32_35
  let c1_i32_39 : BitVec 32 := 1#32
  let v40 : BitVec 32 := Scalar.muli v39 c1_i32_39
  let v41 : BitVec 32 := Scalar.addi c0_i32_40 v40
  v41.toNat
def k0_dev9 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_44 : BitVec 32 := 2#32
  let v48 : BitVec 32 := Scalar.addi v2 c2_i32_44
  let c8_i32_45 : BitVec 32 := 8#32
  let v49 : BitVec 32 := Scalar.remsi v48 c8_i32_45
  let c1_i32_49 : BitVec 32 := 1#32
  let v50 : BitVec 32 := Scalar.muli v49 c1_i32_49
  let v51 : BitVec 32 := Scalar.addi c0_i32_50 v50
  v51.toNat
def k0_dev10 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_54 : BitVec 32 := 3#32
  let v58 : BitVec 32 := Scalar.addi v2 c3_i32_54
  let c8_i32_55 : BitVec 32 := 8#32
  let v59 : BitVec 32 := Scalar.remsi v58 c8_i32_55
  let c1_i32_59 : BitVec 32 := 1#32
  let v60 : BitVec 32 := Scalar.muli v59 c1_i32_59
  let v61 : BitVec 32 := Scalar.addi c0_i32_60 v60
  v61.toNat
def k0_dev11 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_64 : BitVec 32 := 4#32
  let v68 : BitVec 32 := Scalar.addi v2 c4_i32_64
  let c8_i32_65 : BitVec 32 := 8#32
  let v69 : BitVec 32 := Scalar.remsi v68 c8_i32_65
  let c1_i32_69 : BitVec 32 := 1#32
  let v70 : BitVec 32 := Scalar.muli v69 c1_i32_69
  let v71 : BitVec 32 := Scalar.addi c0_i32_70 v70
  v71.toNat
def k0_dev12 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_74 : BitVec 32 := 5#32
  let v78 : BitVec 32 := Scalar.addi v2 c5_i32_74
  let c8_i32_75 : BitVec 32 := 8#32
  let v79 : BitVec 32 := Scalar.remsi v78 c8_i32_75
  let c1_i32_79 : BitVec 32 := 1#32
  let v80 : BitVec 32 := Scalar.muli v79 c1_i32_79
  let v81 : BitVec 32 := Scalar.addi c0_i32_80 v80
  v81.toNat
def k0_dev13 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_84 : BitVec 32 := 6#32
  let v88 : BitVec 32 := Scalar.addi v2 c6_i32_84
  let c8_i32_85 : BitVec 32 := 8#32
  let v89 : BitVec 32 := Scalar.remsi v88 c8_i32_85
  let c1_i32_89 : BitVec 32 := 1#32
  let v90 : BitVec 32 := Scalar.muli v89 c1_i32_89
  let v91 : BitVec 32 := Scalar.addi c0_i32_90 v90
  v91.toNat
def k0_dev14 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_94 : BitVec 32 := 7#32
  let v98 : BitVec 32 := Scalar.addi v2 c7_i32_94
  let c8_i32_95 : BitVec 32 := 8#32
  let v99 : BitVec 32 := Scalar.remsi v98 c8_i32_95
  let c1_i32_99 : BitVec 32 := 1#32
  let v100 : BitVec 32 := Scalar.muli v99 c1_i32_99
  let v101 : BitVec 32 := Scalar.addi c0_i32_100 v100
  v101.toNat
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x128 : Shape := ⟨2, ![2048, 128]⟩
abbrev S128x16 : Shape := ⟨2, ![128, 16]⟩
abbrev S2048x2 : Shape := ⟨2, ![2048, 2]⟩
abbrev S16x128x256 : Shape := ⟨3, ![16, 128, 256]⟩
abbrev S2048x16 : Shape := ⟨2, ![2048, 16]⟩
abbrev S_ : Shape := ⟨0, ![]⟩
abbrev S2048 : Shape := ⟨1, ![2048]⟩
abbrev S2048x1 : Shape := ⟨2, ![2048, 1]⟩
abbrev S2 : Shape := ⟨1, ![2]⟩
abbrev S1x2 : Shape := ⟨2, ![1, 2]⟩
abbrev S1 : Shape := ⟨1, ![1]⟩
abbrev S1x1 : Shape := ⟨2, ![1, 1]⟩
abbrev S2048x128x256 : Shape := ⟨3, ![2048, 128, 256]⟩
abbrev S2048x256 : Shape := ⟨2, ![2048, 256]⟩

abbrev nBuf : Space → Nat
  | .hbm => 99
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S128x16, .f32⟩
  | .hbm, ⟨2, _⟩ => ⟨S2048x2, .i32⟩
  | .hbm, ⟨3, _⟩ => ⟨S16x128x256, .f32⟩
  | .hbm, ⟨4, _⟩ => ⟨S2048x16, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x16, .f32⟩
  | .hbm, ⟨9, _⟩ => ⟨S2048x16, .f32⟩
  | .hbm, ⟨10, _⟩ => ⟨S2048x16, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x16, .f32⟩
  | .hbm, ⟨15, _⟩ => ⟨S2048x16, .f32⟩
  | .hbm, ⟨16, _⟩ => ⟨S2048x1, .i32⟩
  | .hbm, ⟨17, _⟩ => ⟨S2048, .i32⟩
  | .hbm, ⟨18, _⟩ => ⟨S2048x1, .i32⟩
  | .hbm, ⟨19, _⟩ => ⟨S2048, .i32⟩
  | .hbm, ⟨20, _⟩ => ⟨S2048, .i32⟩
  | .hbm, ⟨21, _⟩ => ⟨S2048x1, .i32⟩
  | .hbm, ⟨22, _⟩ => ⟨S2048x1, .i32⟩
  | .hbm, ⟨23, _⟩ => ⟨S2048x2, .i32⟩
  | .hbm, ⟨24, _⟩ => ⟨S2, .i32⟩
  | .hbm, ⟨25, _⟩ => ⟨S_, .i32⟩
  | .hbm, ⟨26, _⟩ => ⟨S2048x2, .i32⟩
  | .hbm, ⟨27, _⟩ => ⟨S2048x2, .i1⟩
  | .hbm, ⟨28, _⟩ => ⟨S1x2, .i32⟩
  | .hbm, ⟨29, _⟩ => ⟨S2048x2, .i32⟩
  | .hbm, ⟨30, _⟩ => ⟨S2048x2, .i1⟩
  | .hbm, ⟨31, _⟩ => ⟨S2048x2, .i1⟩
  | .hbm, ⟨32, _⟩ => ⟨S_, .i1⟩
  | .hbm, ⟨33, _⟩ => ⟨S2048, .i1⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S2048x1, .i32⟩
  | .hbm, ⟨39, _⟩ => ⟨S2048x1, .i32⟩
  | .hbm, ⟨40, _⟩ => ⟨S2048x2, .i32⟩
  | .hbm, ⟨41, _⟩ => ⟨S2, .i32⟩
  | .hbm, ⟨42, _⟩ => ⟨S_, .i32⟩
  | .hbm, ⟨43, _⟩ => ⟨S2048x2, .i32⟩
  | .hbm, ⟨44, _⟩ => ⟨S2048x2, .i1⟩
  | .hbm, ⟨45, _⟩ => ⟨S1x2, .i32⟩
  | .hbm, ⟨46, _⟩ => ⟨S2048x2, .i32⟩
  | .hbm, ⟨47, _⟩ => ⟨S2048x2, .i1⟩
  | .hbm, ⟨48, _⟩ => ⟨S2048x2, .i1⟩
  | .hbm, ⟨49, _⟩ => ⟨S_, .i1⟩
  | .hbm, ⟨50, _⟩ => ⟨S2048, .i1⟩
  | .hbm, ⟨51, _⟩ => ⟨S2048, .f32⟩
  | .hbm, ⟨52, _⟩ => ⟨S_, .f32⟩
  | .hbm, ⟨53, _⟩ => ⟨S2048, .f32⟩
  | .hbm, ⟨54, _⟩ => ⟨S2048, .f32⟩
  | .hbm, ⟨55, _⟩ => ⟨S2048, .f32⟩
  | .hbm, ⟨56, _⟩ => ⟨S2048x1, .i32⟩
  | .hbm, ⟨57, _⟩ => ⟨S1, .i32⟩
  | .hbm, ⟨58, _⟩ => ⟨S_, .i32⟩
  | .hbm, ⟨59, _⟩ => ⟨S2048x1, .i32⟩
  | .hbm, ⟨60, _⟩ => ⟨S2048x1, .i1⟩
  | .hbm, ⟨61, _⟩ => ⟨S1x1, .i32⟩
  | .hbm, ⟨62, _⟩ => ⟨S2048x1, .i32⟩
  | .hbm, ⟨63, _⟩ => ⟨S2048x1, .i1⟩
  | .hbm, ⟨64, _⟩ => ⟨S2048x1, .i1⟩
  | .hbm, ⟨65, _⟩ => ⟨S_, .i1⟩
  | .hbm, ⟨66, _⟩ => ⟨S2048, .i1⟩
  | .hbm, ⟨67, _⟩ => ⟨S2048x128x256, .f32⟩
  | .hbm, ⟨68, _⟩ => ⟨S2048x128x256, .i1⟩
  | .hbm, ⟨69, _⟩ => ⟨S_, .f32⟩
  | .hbm, ⟨70, _⟩ => ⟨S2048x128x256, .f32⟩
  | .hbm, ⟨71, _⟩ => ⟨S2048x128x256, .f32⟩
  | .hbm, ⟨72, _⟩ => ⟨S2048x256, .f32⟩
  | .hbm, ⟨73, _⟩ => ⟨S2048x1, .i32⟩
  | .hbm, ⟨74, _⟩ => ⟨S1, .i32⟩
  | .hbm, ⟨75, _⟩ => ⟨S_, .i32⟩
  | .hbm, ⟨76, _⟩ => ⟨S2048x1, .i32⟩
  | .hbm, ⟨77, _⟩ => ⟨S2048x1, .i1⟩
  | .hbm, ⟨78, _⟩ => ⟨S1x1, .i32⟩
  | .hbm, ⟨79, _⟩ => ⟨S2048x1, .i32⟩
  | .hbm, ⟨80, _⟩ => ⟨S2048x1, .i1⟩
  | .hbm, ⟨81, _⟩ => ⟨S2048x1, .i1⟩
  | .hbm, ⟨82, _⟩ => ⟨S_, .i1⟩
  | .hbm, ⟨83, _⟩ => ⟨S2048, .i1⟩
  | .hbm, ⟨84, _⟩ => ⟨S2048x128x256, .f32⟩
  | .hbm, ⟨85, _⟩ => ⟨S2048x128x256, .i1⟩
  | .hbm, ⟨86, _⟩ => ⟨S_, .f32⟩
  | .hbm, ⟨87, _⟩ => ⟨S2048x128x256, .f32⟩
  | .hbm, ⟨88, _⟩ => ⟨S2048x128x256, .f32⟩
  | .hbm, ⟨89, _⟩ => ⟨S2048x256, .f32⟩
  | .hbm, ⟨90, _⟩ => ⟨S2048, .f32⟩
  | .hbm, ⟨91, _⟩ => ⟨S2048x1, .f32⟩
  | .hbm, ⟨92, _⟩ => ⟨S2048x256, .f32⟩
  | .hbm, ⟨93, _⟩ => ⟨S2048x256, .f32⟩
  | .hbm, ⟨94, _⟩ => ⟨S2048, .f32⟩
  | .hbm, ⟨95, _⟩ => ⟨S2048x1, .f32⟩
  | .hbm, ⟨96, _⟩ => ⟨S2048x256, .f32⟩
  | .hbm, ⟨97, _⟩ => ⟨S2048x256, .f32⟩
  | .hbm, ⟨98, _⟩ => ⟨S2048x256, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_4 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_8 : Ref sig .tc := ⟨.hbm, 57, rfl⟩
abbrev main_c_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_12 : Ref sig .tc := ⟨.hbm, 74, rfl⟩
abbrev main_c_13 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_14 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_15 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩

abbrev nD : Nat := 1
abbrev τ : Topo := Topo.v7x

variable {F : FTy → Type} [FloatOps F]
-- ==== Proof.Protocol.lean ====
/-
The remote steps of the kernel, written down.

Eight devices. Device `c` keeps a stage (its pair of expert matrices rounded to bf16) and a landing buffer of seven slots.
Peer `off c k` (k = 0 … 6) stands `k + 1` places after `c` around the mesh; `c` itself is peer `k.rev` of `off c k`.

* The barrier cell of `c`: every peer signals it once, one unit each; `c` waits for seven. Duty `k` of the cell is paid by
  `off c k`, which hands over its landing slot `k.rev` (the one `c` will write) and that its receive cell for that slot
  is open.
* The send cell `(c, k)`: paid by the landing of `c`'s copy to `off c k`; hands back the share of the stage lent to it.
* The receive cell `(c, k)`: paid by the landing of `off c k`'s copy; hands over slot `k` of `c` holding `off c k`'s stage.

Each cell has one round. The stage is lent in eight shares: seven for the copies, the last for the device's own load.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Ring
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## Families walked from the front -/

section Families
variable {M : Type} [URA M] {n : ℕ}

/-- One member of a conjoined family taken out. -/
theorem bigSep_peel {I : Type} [DecidableEq I] {s : Finset I} {i : I} (h : i ∈ s) (Φ : I → sProp M) :
    bigSep s Φ = iprop(Φ i ∗ bigSep (s.erase i) Φ) := bigSep_erase h

/-- The members of a family numbered `a` or later. -/
def fromN (a : ℕ) (Φ : Fin n → sProp M) : sProp M := bigSep (Finset.univ.filter fun i : Fin n => a ≤ i.val) Φ
/-- The members numbered below `a`. -/
def uptoN (a : ℕ) (Φ : Fin n → sProp M) : sProp M := bigSep (Finset.univ.filter fun i : Fin n => i.val < a) Φ

theorem fromN_zero (Φ : Fin n → sProp M) : fromN 0 Φ = bigSep Finset.univ Φ := by
  unfold fromN; rw [Finset.filter_true_of_mem fun i _ => Nat.zero_le _]

theorem fromN_step (k : Fin n) (Φ : Fin n → sProp M) : fromN k.val Φ = iprop(Φ k ∗ fromN (k.val + 1) Φ) := by
  unfold fromN
  rw [bigSep_peel (s := Finset.univ.filter fun i : Fin n => k.val ≤ i.val) (i := k) (Finset.mem_filter.mpr ⟨Finset.mem_univ _, le_rfl⟩)]
  congr 2
  ext i
  simp only [Finset.mem_erase, Finset.mem_filter, Finset.mem_univ, true_and, ne_eq, Fin.ext_iff]
  omega

theorem uptoN_step (k : Fin n) (Φ : Fin n → sProp M) : uptoN (k.val + 1) Φ = iprop(Φ k ∗ uptoN k.val Φ) := by
  unfold uptoN
  rw [bigSep_peel (s := Finset.univ.filter fun i : Fin n => i.val < k.val + 1) (i := k)
    (Finset.mem_filter.mpr ⟨Finset.mem_univ _, Nat.lt_succ_self _⟩)]
  congr 2
  ext i
  simp only [Finset.mem_erase, Finset.mem_filter, Finset.mem_univ, true_and, ne_eq, Fin.ext_iff]
  omega

theorem uptoN_zero (Φ : Fin n → sProp M) : uptoN 0 Φ = iprop(emp) := by
  unfold uptoN; rw [Finset.filter_false_of_mem fun i _ => Nat.not_lt_zero _]; rfl

theorem fromN_end (Φ : Fin n → sProp M) : fromN n Φ = iprop(emp) := by
  unfold fromN; rw [Finset.filter_false_of_mem fun i _ => Nat.not_le.mpr i.isLt]; rfl

theorem uptoN_end (Φ : Fin n → sProp M) : uptoN n Φ = bigSep Finset.univ Φ := by
  unfold uptoN; rw [Finset.filter_true_of_mem fun i _ => i.isLt]

/-- Member `k` of the part below `a`, and the way to put it back. -/
theorem uptoN_take {a : ℕ} (k : Fin n) (h : k.val < a) (Φ : Fin n → sProp M) :
    uptoN a Φ = iprop(Φ k ∗ bigSep ((Finset.univ.filter fun i : Fin n => i.val < a).erase k) Φ) :=
  bigSep_peel (s := Finset.univ.filter fun i : Fin n => i.val < a) (i := k) (Finset.mem_filter.mpr ⟨Finset.mem_univ _, h⟩) Φ

end Families

/-! ## The mesh -/

set_option backward.proofsInPublic true in
def off (c : Dev nD) (k : Fin 7) : Dev nD := ⟨(c.val + k.val + 1) % 8, Nat.mod_lt _ (by decide)⟩

theorem off_rev (c : Dev nD) (k : Fin 7) : off (off c k) k.rev = c := by revert c k; decide
theorem off_rev' (c : Dev nD) (k : Fin 7) : off (off c k.rev) k = c := by revert c k; decide
theorem off_ne (c : Dev nD) (k : Fin 7) : off c k ≠ c := by revert c k; decide
theorem off_inj (c : Dev nD) {k k' : Fin 7} (h : off c k = off c k') : k = k' := by revert c k k'; decide

/-- For each k the step `c ↦ off c k` is a permutation of the devices. -/
def ring (k : Fin 7) : Dev nD ≃ Dev nD := ⟨fun c => off c k, fun c => off c k.rev, fun c => off_rev c k, fun c => off_rev' c k⟩

/-! ## The buffers and the cells -/

abbrev xM : Memref sig .tc .vmem S256x128 .f32 := Memref.whole cc0_stg0_0
abbrev rM : Memref sig .tc .vmem S128x16 .f32 := Memref.whole cc0_stg1_0
abbrev iM : Memref sig .tc .vmem S256x2 .i32 := Memref.whole cc0_stg2_0
abbrev wM : Memref sig .tc .vmem S2x128x256 .f32 := Memref.whole cc0_stg3_0
abbrev oM : Memref sig .tc .vmem S256x256 .f32 := Memref.whole cc0_stg4_0
abbrev sM : Memref sig .tc .vmem S2x128x256 .bf16 := Memref.whole cc0_scratch0
abbrev cM : Memref sig .tc .vmem S7x2x128x256 .bf16 := Memref.whole cc0_scratch1

theorem inbSlot (j : Fin 7) : ∀ a, (![j.val, 0, 0, 0] : Fin 4 → Nat) a + S1x2x128x256.size a ≤ S7x2x128x256.size a := by
  revert j; decide

/-- Slot `j` of the landing buffer, as a rectangle of it and as a memref of the stage's shape. -/
abbrev slotR (j : Fin 7) : Rect S7x2x128x256 := Rect.unit (s := S7x2x128x256) ![j.val, 0, 0, 0] S1x2x128x256.size (inbSlot j)
abbrev slotM (j : Fin 7) : Memref sig .tc .vmem S2x128x256 .bf16 :=
  (cM.slice (slotR j) (fun _ => rfl)).squeeze S2x128x256 squeezes_S1x2x128x256_S2x128x256

abbrev barS : Sem sig := (SemArray.scalar (sig.barrier 0 rfl) : Sems sig S_).sem
set_option backward.proofsInPublic true in
abbrev sendQ (k : Fin 7) : DmaSem sig := ⟨5 + k.val, Nat.lt_of_lt_of_le (Nat.add_lt_add_left k.isLt 5) (by decide)⟩
set_option backward.proofsInPublic true in
abbrev recvQ (k : Fin 7) : DmaSem sig := ⟨12 + k.val, Nat.lt_of_lt_of_le (Nat.add_lt_add_left k.isLt 12) (by decide)⟩

abbrev barCell (c : Dev nD) : GSem nD τ sig := ((c : Thread nD τ), .reg barS)
abbrev sendCell (c : Dev nD) (k : Fin 7) : GSem nD τ sig := ((c : Thread nD τ), .dma (sendQ k))
abbrev recvCell (c : Dev nD) (k : Fin 7) : GSem nD τ sig := ((c : Thread nD τ), .dma (recvQ k))

/-- A device's fifteen cells: the barrier, the seven send cells, the seven receive cells. -/
abbrev CI : Type := Unit ⊕ (Fin 7 ⊕ Fin 7)
abbrev csem : CI → SemLoc sig := fun
  | .inl _ => .reg barS
  | .inr (.inl k) => .dma (sendQ k)
  | .inr (.inr k) => .dma (recvQ k)
abbrev kcell (ck : Dev nD × CI) : GSem nD τ sig := ((ck.1 : Thread nD τ), csem ck.2)

/-- What one copy pays: the credit of a stage's worth of bytes. -/
abbrev N : ℕ := (slotM 0).view.dmaCredit
theorem N_pos : 0 < N := View.dmaCredit_pos _ (by decide)
theorem slot_credit (j : Fin 7) : (slotM j).view.dmaCredit = N := rfl
theorem stage_credit : (sM : Memref sig .tc .vmem S2x128x256 .bf16).view.dmaCredit = N := rfl

/-! ## Contents -/

def xstg (c : Dev nD) : (cc0_stg0_0 : Ref sig .tc).ty.Contents (Elt F) :=
  (win0_0.blk (0 : Fin 1)).view.read (Elt F) ((s₀ m ρ).mem ((c : Thread nD τ).loc main_arg0))
def rstg (c : Dev nD) : (cc0_stg1_0 : Ref sig .tc).ty.Contents (Elt F) :=
  (win0_1.blk (0 : Fin 1)).view.read (Elt F) ((s₀ m ρ).mem ((c : Thread nD τ).loc main_arg1))
def istg (c : Dev nD) : (cc0_stg2_0 : Ref sig .tc).ty.Contents (Elt F) :=
  (win0_2.blk (0 : Fin 1)).view.read (Elt F) ((s₀ m ρ).mem ((c : Thread nD τ).loc main_arg2))
def wstg (c : Dev nD) : (cc0_stg3_0 : Ref sig .tc).ty.Contents (Elt F) :=
  (win0_3.blk (0 : Fin 1)).view.read (Elt F) ((s₀ m ρ).mem ((c : Thread nD τ).loc main_arg3))

/-- What device `c` stores in its stage and sends to every peer. -/
def stageV (c : Dev nD) : (cc0_scratch0 : Ref sig .tc).ty.Contents (Elt F) := k0_pay1 (wstg m ρ c)

/-- One of the eight shares of the stage of `c`. -/
def stagePts (c : Dev nD) (i : Fin 8) : sProp 𝕄 :=
  (sM : Memref sig .tc .vmem S2x128x256 .bf16).view.loc (c : Thread nD τ)
    ↦[(sM : Memref sig .tc .vmem S2x128x256 .bf16).view.set]{ShareLeaves.leaf 3 fullShare i} (stageV m ρ c)

/-- Slot `j` of the landing buffer of `c`, at contents `f`. -/
def slotPts (c : Dev nD) (j : Fin 7) (f : Buf (Elt F) ((slotM j).view.loc (c : Thread nD τ))) : sProp 𝕄 :=
  (slotM j).view.loc (c : Thread nD τ) ↦[(slotM j).view.set]{fullShare} f

/-- Slot `j` of `c` holding the stage of `off c j`. -/
def landedPts (c : Dev nD) (j : Fin 7) : sProp 𝕄 :=
  iprop(∃ f, ⌜(slotM j).view.read (Elt F) f = stageV m ρ (off c j)⌝ ∗ slotPts c j f)

omit [FloatOps F] in
instance slotPts_storable (c : Dev nD) (j : Fin 7) (f) : BI.Storable (upEmb : UEmb _ 𝕄) (slotPts (F := F) c j f) := by
  unfold slotPts; infer_instance
instance stagePts_storable (c : Dev nD) (i : Fin 8) : BI.Storable (upEmb : UEmb _ 𝕄) (stagePts (F := F) m ρ c i) := by
  unfold stagePts; infer_instance
instance landedPts_storable (c : Dev nD) (j : Fin 7) : BI.Storable (upEmb : UEmb _ 𝕄) (landedPts (F := F) m ρ c j) := by
  unfold landedPts; infer_instance

/-! ## The schedule -/

def barPay (c : Dev nD) (k : Fin 7) : sProp 𝕄 :=
  iprop((∃ f, slotPts (off c k) k.rev f) ∗ reached ER (recvCell (off c k) k.rev) 0)
instance barPay_storable (c : Dev nD) (k : Fin 7) : BI.Storable (upEmb : UEmb _ 𝕄) (barPay (F := F) c k) := by
  unfold barPay; infer_instance

/-- What a DMA cell hands over, by the number of its semaphore: 5 … 11 the send cells, 12 … 18 the receive cells. -/
def dmaPay (c : Dev nD) (q : DmaSem sig) : sProp 𝕄 :=
  if h : 5 ≤ q.val ∧ q.val < 12 then stagePts m ρ c ⟨q.val - 5, by omega⟩
  else if h : 12 ≤ q.val ∧ q.val < 19 then landedPts m ρ c ⟨q.val - 12, by omega⟩
  else iprop(emp)
instance dmaPay_storable (c : Dev nD) (q : DmaSem sig) : BI.Storable (upEmb : UEmb _ 𝕄) (dmaPay (F := F) m ρ c q) := by
  unfold dmaPay; (repeat' split) <;> infer_instance

/-- The cells that take part. -/
abbrev Ours (q : DmaSem sig) : Prop := 5 ≤ q.val

def rd : Rounds.Schedule (GSem nD τ sig) (Fin 7) 𝕄 where
  duties g r := if r = 0 ∧ g.1.2 = .tc then (match g.2 with | .reg s => Finset.univ | .dma q => {0}) else ∅
  unitless _ := False
  amount g _ _ := match g.2 with | .reg _ => 1 | .dma _ => N
  payload g _ d := match g.2 with | .reg _ => barPay g.1.1 d | .dma q => dmaPay m ρ g.1.1 q
  amount_pos g _ _ _ := by
    rcases g with ⟨t, s | q⟩
    · exact Nat.one_pos
    · exact N_pos

instance rd_payload_storable (g : GSem nD τ sig) (r : ℕ) (d : Fin 7) :
    BI.Storable (upEmb : UEmb _ 𝕄) ((rd (F := F) m ρ).payload g r d) := by
  rcases g with ⟨t, s | q⟩
  · exact barPay_storable t.1 d
  · exact dmaPay_storable m ρ t.1 q

section Sched
variable (c : Dev nD) (k : Fin 7)

theorem duties_bar : (rd (F := F) m ρ).duties (barCell c) 0 = Finset.univ := by
  dsimp only [rd]; exact if_pos ⟨rfl, rfl⟩
theorem duties_dma (q : DmaSem sig) : (rd (F := F) m ρ).duties ((c : Thread nD τ), .dma q) 0 = {0} := by
  dsimp only [rd]; exact if_pos ⟨rfl, rfl⟩
theorem duties_later (g : GSem nD τ sig) : ∀ r, 1 ≤ r → (rd (F := F) m ρ).duties g r = ∅ :=
  fun r hr => by dsimp only [rd]; exact if_neg fun h => by omega

theorem amount_bar (d : Fin 7) : (rd (F := F) m ρ).amount (barCell c) 0 d = 1 := rfl
theorem amount_dma (q : DmaSem sig) (d : Fin 7) : (rd (F := F) m ρ).amount ((c : Thread nD τ), .dma q) 0 d = N := rfl

theorem expect_bar : (rd (F := F) m ρ).expect (barCell c) 0 = 7 := by
  unfold Schedule.expect Schedule.amountOf
  rw [duties_bar, Finset.sum_congr rfl fun d _ => amount_bar m ρ c d]; rfl
theorem expect_dma (q : DmaSem sig) : (rd (F := F) m ρ).expect ((c : Thread nD τ), .dma q) 0 = N := by
  unfold Schedule.expect Schedule.amountOf; rw [duties_dma, Finset.sum_singleton, amount_dma]

theorem payload_bar (d : Fin 7) : (rd (F := F) m ρ).payload (barCell c) 0 d = barPay c d := rfl
theorem payload_send (d : Fin 7) : (rd (F := F) m ρ).payload (sendCell c k) 0 d = stagePts m ρ c k.castSucc := by
  show dmaPay m ρ c (sendQ k) = _
  unfold dmaPay
  rw [dif_pos ⟨Nat.le_add_right _ _, by have := k.isLt; show 5 + k.val < 12; omega⟩]
  congr 1; exact Fin.ext (by show 5 + k.val - 5 = k.val; omega)
theorem payload_recv (d : Fin 7) : (rd (F := F) m ρ).payload (recvCell c k) 0 d = landedPts m ρ c k := by
  show dmaPay m ρ c (recvQ k) = _
  unfold dmaPay
  rw [dif_neg (by show ¬ (5 ≤ 12 + k.val ∧ 12 + k.val < 12); omega),
    dif_pos ⟨Nat.le_add_right _ _, by have := k.isLt; show 12 + k.val < 19; omega⟩]
  congr 1; exact Fin.ext (by show 12 + k.val - 12 = k.val; omega)

theorem rest_bar : bigSep ((rd (F := F) m ρ).duties (barCell c) 0 \ ∅) (fun d => (rd (F := F) m ρ).payload (barCell c) 0 d)
    = bigSep Finset.univ fun k : Fin 7 => barPay c k := by
  rw [Finset.sdiff_empty, duties_bar]; rfl
theorem rest_send : bigSep ((rd (F := F) m ρ).duties (sendCell c k) 0 \ ∅) (fun d => (rd (F := F) m ρ).payload (sendCell c k) 0 d)
    = stagePts m ρ c k.castSucc := by
  rw [Finset.sdiff_empty, duties_dma, bigSep_singleton, payload_send]
theorem rest_recv : bigSep ((rd (F := F) m ρ).duties (recvCell c k) 0 \ ∅) (fun d => (rd (F := F) m ρ).payload (recvCell c k) 0 d)
    = landedPts m ρ c k := by
  rw [Finset.sdiff_empty, duties_dma, bigSep_singleton, payload_recv]

end Sched

/-! ## What each device owes, and the levels -/

/-- The receive credit device `c` owes its peer `k`, and the unit it owes that peer's barrier. -/
abbrev recvT (c : Dev nD) (k : Fin 7) : CellTallies nD τ sig Unit := tallyAt (recvCell (off c k) k.rev) () N
abbrev barT (c : Dev nD) (k : Fin 7) : CellTallies nD τ sig Unit := tallyAt (barCell (off c k)) () 1

/-- The sum of a family from member `a` on. -/
def sumFrom (a : ℕ) (T : Fin 7 → CellTallies nD τ sig Unit) : CellTallies nD τ sig Unit :=
  ∑ i ∈ Finset.univ.filter (fun i : Fin 7 => a ≤ i.val), T i

theorem sumFrom_step (k : Fin 7) (T : Fin 7 → CellTallies nD τ sig Unit) : sumFrom k.val T = sumFrom (k.val + 1) T + T k := by
  unfold sumFrom
  rw [← Finset.sum_erase_add _ _ (show k ∈ Finset.univ.filter (fun i : Fin 7 => k.val ≤ i.val) from Finset.mem_filter.mpr ⟨Finset.mem_univ _, le_rfl⟩)]
  congr 1
  refine Finset.sum_congr ?_ fun _ _ => rfl
  ext i
  simp only [Finset.mem_erase, Finset.mem_filter, Finset.mem_univ, true_and, ne_eq, Fin.ext_iff]
  omega
theorem sumFrom_end (T : Fin 7 → CellTallies nD τ sig Unit) : sumFrom 7 T = 0 := by
  unfold sumFrom; rw [Finset.filter_false_of_mem fun i _ => Nat.not_le.mpr i.isLt]; rfl
theorem sumFrom_zero (T : Fin 7 → CellTallies nD τ sig Unit) : sumFrom 0 T = ∑ i, T i := by
  unfold sumFrom; rw [Finset.filter_true_of_mem fun i _ => Nat.zero_le _]
theorem sumFrom_apply (a : ℕ) (T : Fin 7 → CellTallies nD τ sig Unit) (g : GSem nD τ sig) (u : Unit) :
    sumFrom a T g u = ∑ i ∈ Finset.univ.filter (fun i : Fin 7 => a ≤ i.val), T i g u := by
  unfold sumFrom; rw [Finset.sum_apply, Finsupp.finsetSum_apply]

/-- What `c` owes before its `a`-th signal: all receive credits, and a unit to each peer not yet signalled. -/
def owedSig (c : Dev nD) (a : ℕ) : CellTallies nD τ sig Unit := sumFrom 0 (recvT c) + sumFrom a (barT c)
def O₀ (c : Dev nD) : CellTallies nD τ sig Unit := owedSig c 0

theorem owedSig_step (c : Dev nD) (k : Fin 7) : owedSig c k.val = owedSig c (k.val + 1) + barT c k := by
  unfold owedSig; rw [sumFrom_step, add_assoc]
theorem owedSig_end (c : Dev nD) : owedSig c 7 = sumFrom 0 (recvT c) := by
  unfold owedSig; rw [sumFrom_end, add_zero]

def L (g : GSem nD τ sig) : Finset Unit := if g.1.2 = .tc then {()} else ∅
/-- Barrier cells at 1, receive cells at 2, the rest (staging and send cells) at 0. -/
def lv (g : GSem nD τ sig) (_ : Unit) : ℕ := match g.2 with | .reg _ => 1 | .dma q => if 12 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Fin 7) : lv (recvCell c k) () = 2 := if_pos (Nat.le_add_right 12 k.val)
theorem lv_bar (c : Dev nD) : lv (barCell c) () = 1 := rfl

theorem sumFrom_pos {a : ℕ} {C : Fin 7 → GSem nD τ sig} {n : ℕ} {g : GSem nD τ sig} {u : Unit}
    (h : 0 < sumFrom a (fun k => tallyAt (C k) () n) g u) : ∃ k, g = C k := by
  rw [sumFrom_apply] at h
  by_contra hn
  rw [Finset.sum_eq_zero fun i _ => ?_] at h
  · exact Nat.lt_irrefl 0 h
  · rw [tallyAt_apply, if_neg fun h' => hn ⟨i, h'.1⟩]

theorem O₀_pos {c : Dev nD} {g : GSem nD τ sig} {u : Unit} (h : 0 < O₀ c g u) :
    (∃ k : Fin 7, g = recvCell (off c k) k.rev) ∨ ∃ k : Fin 7, g = barCell (off c k) := by
  unfold O₀ owedSig at h
  rw [Pi.add_apply, Finsupp.add_apply] at h
  rcases Nat.eq_zero_or_pos (sumFrom 0 (recvT c) g u) with h0 | h0
  · rw [h0, zero_add] at h; exact .inr (sumFrom_pos h)
  · exact .inl (sumFrom_pos h0)

omit [FloatOps F] in
theorem mayWait_low (c : Dev nD) (q : DmaSem sig) (hq : q.val < 12) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by rw [Finset.mem_singleton.mp hp]; exact le_of_eq (if_neg (by omega)))
      (fun g u hg => by
        rcases O₀_pos hg with ⟨k, rfl⟩ | ⟨k, rfl⟩
        · show 0 < lv _ ()
          rw [lv_recv]; decide
        · exact Nat.one_pos)
  · rw [MayWait_zero]; iintro -; iempintro

omit [FloatOps F] in
/-- At its barrier wait a device owes receive credits only, and a receive cell stands above a barrier cell. -/
theorem mayWait_bar (c : Dev nD) :
    (levAts L lv : sProp 𝕄) ⊢ MayWait (c : Thread nD τ) (.reg barS) () (sumFrom 0 (recvT c)) :=
  MayOwe.of_cut (L := L) (lev := lv) 1 (fun p hp => by rw [Finset.mem_singleton.mp hp, L_tc]; exact Finset.mem_singleton_self _)
    (fun g u hg => by obtain ⟨k, rfl⟩ := sumFrom_pos hg; exact Finset.mem_singleton_self _)
    (fun p hp => by rw [Finset.mem_singleton.mp hp]; exact le_refl 1)
    (fun g u hg => by
      obtain ⟨k, rfl⟩ := sumFrom_pos hg
      show 1 < lv _ ()
      rw [lv_recv]; decide)

end Cert.Moe

end
-- ==== Proof.Steps.lean ====
/-
One rule for each kind of step the kernel takes with its peers, each stated for every device and every peer number, over a
state that counts how many of the seven have been taken.
-/
module

public import proofs.«01_k».proof.Proof.Protocol

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What every device knows -/

/-- Every cell's invariant, and that every cell's round is open. -/
def records (K : Dev nD × CI → ℕ) : sProp 𝕄 :=
  iprop((bigSep Finset.univ fun ck : Dev nD × CI => cellInv ER (rd m ρ) (K ck) (kcell ck))
    ∗ bigSep Finset.univ fun ck : Dev nD × CI => reached ER (kcell ck) 0)

instance records_persistent (K : Dev nD × CI → ℕ) : BI.Persistent (records m ρ K) := by unfold records; infer_instance

theorem inv_at (K : Dev nD × CI → ℕ) (ck : Dev nD × CI) :
    (records m ρ K : sProp 𝕄) ⊢ cellInv ER (rd m ρ) (K ck) (kcell ck) := by
  unfold records
  iintro ⟨#HI, -⟩
  iapply (show (bigSep Finset.univ fun ck : Dev nD × CI => (cellInv ER (rd m ρ) (K ck) (kcell ck) : sProp 𝕄)) ⊢ cellInv ER (rd m ρ) (K ck) (kcell ck)
    from bigSep_elim (Finset.mem_univ ck))
  iexact HI

theorem reached_at (K : Dev nD × CI → ℕ) (ck : Dev nD × CI) : (records m ρ K : sProp 𝕄) ⊢ reached ER (kcell ck) 0 := by
  unfold records
  iintro ⟨-, #HR⟩
  iapply (show (bigSep Finset.univ fun ck : Dev nD × CI => (reached ER (kcell ck) 0 : sProp 𝕄)) ⊢ reached ER (kcell ck) 0
    from bigSep_elim (Finset.mem_univ ck))
  iexact HR

/-- What a device owes, with whatever waits it has recorded. -/
def owing (c : Dev nD) (O : CellTallies nD τ sig Unit) : sProp 𝕄 := iprop(∃ W, owes (c : Thread nD τ) O W)

/-! ## The signals -/

/-- What the `k`-th signal needs: the duty's token and the device's own slot `k`. -/
def sigPart (c : Dev nD) (k : Fin 7) : sProp 𝕄 := iprop(dutyTok ER (barCell (off c k)) 0 k.rev ∗ ∃ f, slotPts c k f)
/-- Before the `a`-th signal. -/
def sigSt (c : Dev nD) (a : ℕ) : sProp 𝕄 := iprop(owing c (owedSig c a) ∗ fromN a (sigPart c))

theorem signal_step (K : Dev nD × CI → ℕ) (c n : Dev nD) (k : Fin 7) (hn : n = off c k) {a : ℕ} (ha : a = 1)
    {α : Type} {Q : α → sProp 𝕄} {kt : PUnit → Prog (TpuEff nD τ sig (Elt F) Λ₀ .tc) α} :
    iprop(records m ρ K ∗ sigSt c k.val)
      ⊢ iprop((sigSt c (k.val + 1) -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (n : Thread nD τ) barS a) kt) Q) := by
  subst hn ha
  unfold sigSt owing
  rw [fromN_step k, owedSig_step]
  unfold sigPart
  iintro ⟨#HR, ⟨%W, HO⟩, ⟨Ht, ⟨%f, Hs⟩⟩, Hrest⟩ Hk
  iapply (Rounds.wp_signal 𝒱₀ ER (rd m ρ) (c : Thread nD τ) none (dst := (off c k : Thread nD τ)) (κ := K (off c k, .inl ()))
      (r := 0) (d := k.rev) (by rw [duties_bar]; exact Finset.mem_univ _) (amount_bar m ρ (off c k) k.rev) () (owedSig c (k.val + 1)) rfl)
    $$ [HO Ht Hs]
  · isplitr; · iapply (inv_at m ρ K (off c k, .inl ())); iexact HR
    isplitl [HO]; · iexact HO
    isplitl [Ht]; · iexact Ht
    isplitl [Hs]
    · rw [payload_bar]; unfold barPay; rw [off_rev, Fin.rev_rev]
      isplitl [Hs]; · iexists f; iexact Hs
      iapply (reached_at m ρ K (c, .inr (.inr k))); iexact HR
    iapply (reached_at m ρ K (off c k, .inl ())); iexact HR
  iintro HO
  iapply Hk
  isplitl [HO]; · iexists W; iexact HO
  iexact Hrest

/-! ## The barrier wait -/

theorem barrier_step (K : Dev nD × CI → ℕ) (c : Dev nD) {a : ℕ} (ha : a = 7)
    {α : Type} {Q : α → sProp 𝕄} {kt : PUnit → Prog (TpuEff nD τ sig (Elt F) Λ₀ .tc) α} :
    iprop(records m ρ K ∗ levAts L lv ∗ sigSt c 7 ∗ cred (tallyAt (barCell c) () 7) ∗ atPos ER (barCell c) 0 ∅ 0)
      ⊢ iprop(((owing c (sumFrom 0 (recvT c)) ∗ atPos ER (barCell c) (0 + 1) ∅ 0 ∗ bigSep Finset.univ fun k : Fin 7 => barPay c k)
            -∗ wp frame (wpE (defs₀ (F := F)) 𝒱₀ (c : Thread nD τ) none) Set.univ (kt ⟨⟩) Q)
          -∗ wp frame (wpE (defs₀ (F := F)) 𝒱₀ (c : Thread nD τ) none) Set.univ (.op (.semWait barS a) kt) Q) := by
  subst ha
  unfold sigSt owing
  rw [owedSig_end]
  iintro ⟨#HR, #Hlev, ⟨⟨%W, HO⟩, Hrest⟩, Hc, Hat⟩ Hk
  iapply (Rounds.wp_wait_rest_token 𝒱₀ ER (rd m ρ) (c : Thread nD τ) none (κ := K (c, .inl ()))
      (wpE_semWait_eq 𝒱₀ (c : Thread nD τ) none Set.univ) (Set.mem_univ _) () (O := sumFrom 0 (recvT c)) (W := W) (R := 0) (m := 0) (T := ∅)
      (by rw [expect_bar])) $$ [Hc HO Hat]
  · isplitr; · iapply (inv_at m ρ K (c, .inl ())); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  iapply Hk
  isplitl [HO]; · iexists _; iexact HO
  isplitl [Hat]; · iexact Hat
  iexact Hp

/-! ## The copies -/

/-- What the `k`-th copy needs: the two duties' tokens, and slot `k.rev` of `off c k`. -/
def sendPart (c : Dev nD) (k : Fin 7) : sProp 𝕄 :=
  iprop(dutyTok ER (sendCell c k) 0 0 ∗ dutyTok ER (recvCell (off c k) k.rev) 0 0 ∗ ∃ f, slotPts (off c k) k.rev f)
/-- Before the `a`-th copy: the shares of the stage not yet lent, and the credit of the copies started. -/
def sendSt (c : Dev nD) (a : ℕ) : sProp 𝕄 :=
  iprop(owing c (sumFrom a (recvT c)) ∗ fromN a (sendPart c) ∗ fromN a (stagePts m ρ c) ∗ uptoN a (fun k => cred (tallyAt (sendCell c k) () N)))

omit [FloatOps F] in
/-- What a copy leaves in the slot reads as what the stage held. -/
theorem landed_read (c n : Dev nD) (j : Fin 7) (fs : (cc0_scratch0 : Ref sig .tc).ty.Contents (Elt F))
    (fd : Buf (Elt F) ((slotM j).view.loc (n : Thread nD τ))) :
    (slotM j).view.read (Elt F) ((slotM j).view.write (Elt F) fd ((sM : Memref sig .tc .vmem S2x128x256 .bf16).view.read (Elt F) fs) Finset.univ) = fs := by
  rw [View.read_write_univ]
  exact View.read_whole _ _

theorem send_step (K : Dev nD × CI → ℕ) (c n : Dev nD) (k : Fin 7) (hn : n = off c k)
    {d : Memref sig .tc .vmem S2x128x256 .bf16} (hd : d = slotM k.rev) {qS qR : SemLoc sig} (hS : qS = .dma (sendQ k)) (hR : qR = .dma (recvQ k.rev))
    {hsc : (show Memref sig (Dev.tc n : Thread nD τ).2.kind .vmem S2x128x256 .bf16 from d).view.ref.isScScratch = false}
    {hsrc : (sM : Memref sig .tc .vmem S2x128x256 .bf16).view.WordExact} {hdst : d.view.WordExact}
    {hsem : DmaTarget.Typed .vmem qR (.remote (Dev.tc n : Thread nD τ) d qS hsc)}
    {α : Type} {Q : α → sProp 𝕄} {kt : PUnit → Prog (TpuEff nD τ sig (Elt F) Λ₀ .tc) α} :
    iprop(records m ρ K ∗ sendSt m ρ c k.val)
      ⊢ iprop((sendSt m ρ c (k.val + 1) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma sM (.remote (Dev.tc n : Thread nD τ) d qS hsc) qR hsrc hdst hsem) kt) Q) := by
  subst hn hd hS hR
  unfold sendSt owing
  rw [fromN_step k, sumFrom_step, uptoN_step k, show fromN k.val (stagePts (F := F) m ρ c) = _ from fromN_step k.castSucc (stagePts m ρ c)]
  unfold sendPart slotPts
  iintro ⟨#HR, ⟨%W, HO⟩, ⟨⟨HtS, HtR, ⟨%f, Hs⟩⟩, Hrest⟩, ⟨Hst, Hsts⟩, Hcr⟩ Hk
  iapply (Rounds.wp_send_pointsTo 𝒱₀ ER (rd m ρ) (c : Thread nD τ) none (κ₁ := K (c, .inr (.inl k))) (κ₂ := K (off c k, .inr (.inr k.rev)))
    (r₁ := 0) (r₂ := 0) (d₁ := 0) (d₂ := 0) (fs := stageV m ρ c) (fd := f) (q := ShareLeaves.leaf 3 fullShare k.castSucc)
    (by rw [duties_dma]; exact Finset.mem_singleton_self _) (by rw [duties_dma]; exact Finset.mem_singleton_self _)
    () () N rfl (amount_dma m ρ c (sendQ k) 0) (amount_dma m ρ (off c k) (recvQ k.rev) 0) (sumFrom (k.val + 1) (recvT c)) rfl (W := W)
    (by rw [payload_send]; exact BI.Entails.refl _)
    (by
      rw [payload_recv]; unfold landedPts slotPts
      iintro H
      iexists _
      isplitr
      · ipureintro; rw [off_rev]; exact landed_read c (off c k) k.rev (stageV m ρ c) f
      iexact H)) $$ [HO HtS HtR Hs Hst]
  · isplitr; · iapply (inv_at m ρ K (c, .inr (.inl k))); iexact HR
    isplitr; · iapply (inv_at m ρ K (off c k, .inr (.inr k.rev))); iexact HR
    isplitl [Hst]; · unfold stagePts; iexact Hst
    isplitl [Hs]; · iexact Hs
    isplitl [HO]; · iexact HO
    isplitl [HtS]; · iexact HtS
    isplitr; · iapply (reached_at m ρ K (c, .inr (.inl k))); iexact HR
    isplitl [HtR]; · iexact HtR
    iapply (reached_at m ρ K (off c k, .inr (.inr k.rev))); iexact HR
  iintro ⟨Hc, HO⟩
  iapply Hk
  isplitl [HO]; · iexists W; iexact HO
  isplitl [Hrest]; · iexact Hrest
  isplitl [Hsts]; · iexact Hsts
  isplitl [Hc]; · iexact Hc
  iexact Hcr

/-! ## The waits for the peers' copies -/

/-- What the `j`-th of these waits needs, and what it leaves. -/
def recvNeed (c : Dev nD) (j : Fin 7) : sProp 𝕄 := iprop(cred (tallyAt (recvCell c j) () N) ∗ atPos ER (recvCell c j) 0 ∅ 0)
def recvGot (c : Dev nD) (j : Fin 7) : sProp 𝕄 := iprop(atPos ER (recvCell c j) (0 + 1) ∅ 0 ∗ landedPts m ρ c j)
def recvSt (c : Dev nD) (a : ℕ) : sProp 𝕄 := iprop(owing c 0 ∗ fromN a (recvNeed c) ∗ uptoN a (recvGot m ρ c))

theorem recv_step (K : Dev nD × CI → ℕ) (c : Dev nD) (j : Fin 7) {q : DmaSem sig} (hq : q = recvQ j)
    {sp : Space} {s s' : Shape} {e e' : EltTy} {src : Memref sig .tc sp s' e'} {dst : Memref sig .tc .vmem s e}
    (hd : dst.view.dmaCredit = N) {hsrc : src.view.WordExact} {hdst : dst.view.WordExact}
    {α : Type} {Q : α → sProp 𝕄} {kt : PUnit → Prog (TpuEff nD τ sig (Elt F) Λ₀ .tc) α} :
    iprop(records m ρ K ∗ recvSt m ρ c j.val)
      ⊢ iprop((recvSt m ρ c (j.val + 1) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q src dst hsrc hdst) kt) Q) := by
  subst hq
  unfold recvSt owing
  rw [fromN_step j, uptoN_step j]
  unfold recvNeed recvGot
  iintro ⟨#HR, ⟨%W, HO⟩, ⟨⟨Hc, Hat⟩, Hrest⟩, Hgot⟩ Hk
  iapply (Rounds.wp_wait_rest_token 𝒱₀ ER (rd m ρ) (c : Thread nD τ) none (κ := K (c, .inr (.inr j)))
      (wpE_waitDma2_eq 𝒱₀ (c : Thread nD τ) none Set.univ) (Set.mem_univ _) () (O := 0) (W := W) (R := 0) (m := 0) (T := ∅)
      (by rw [Nat.zero_add, expect_dma]; exact hd)) $$ [Hc HO Hat]
  · isplitr; · iapply (inv_at m ρ K (c, .inr (.inr j))); iexact HR
    isplitl [Hc]; · rw [hd]; iexact Hc
    isplitl [HO]; · iexact HO
    isplitr; · rw [MayWait_zero]; iempintro
    iexact Hat
  iintro ⟨HO, Hat, -, Hpay⟩
  ihave Hp := (Entails.of_eq (rest_recv m ρ c j)) $$ Hpay
  iapply Hk
  isplitl [HO]; · iexists _; iexact HO
  isplitl [Hrest]; · iexact Hrest
  isplitl [Hat Hp]
  · isplitl [Hat]; · iexact Hat
    iexact Hp
  iexact Hgot

/-! ## The load of a landed slot -/

/-- A stage read through the leading unit axis a slot has in the landing buffer. -/
def slab (w : (cc0_scratch0 : Ref sig .tc).ty.Contents (Elt F)) : Vec F S1x2x128x256 .bf16 :=
  shapeCast S1x2x128x256 (show Vec F S2x128x256 .bf16 from w) (by decide)

omit [FloatOps F] in
theorem slot_load (j : Fin 7) (c : Dev nD) (f : Buf (Elt F) ((slotM j).view.loc (c : Thread nD τ))) (w : (cc0_scratch0 : Ref sig .tc).ty.Contents (Elt F))
    (h : (slotM j).view.read (Elt F) f = w) :
    (cM : Memref sig .tc .vmem S7x2x128x256 .bf16).view.readAt (Elt F) (slotR j).toLoadRect f = slab w := by
  subst h
  have hr : (slotM j).view.read (Elt F) f
      = shapeCast S2x128x256 ((cM : Memref sig .tc .vmem S7x2x128x256 .bf16).view.readAt (Elt F) (slotR j).toLoadRect f) shapeCasts_S1x2x128x256_S2x128x256 := rfl
  rw [hr]
  funext i
  unfold slab
  show _ = (cM : Memref sig .tc .vmem S7x2x128x256 .bf16).view.readAt (Elt F) (slotR j).toLoadRect f _
  exact congrArg _ ((Shape.reshapeEquiv_reshapeEquiv _ _ i).trans (Shape.reshapeEquiv_self _ i)).symm

theorem load_step (c : Dev nD) (j : Fin 7) {a : ℕ} (hj : j.val < a)
    {hl : (cM : Memref sig .tc .vmem S7x2x128x256 .bf16).view.LoadsAt (slotR j).toLoadRect}
    {α : Type} {Q : α → sProp 𝕄} {kt : ((slotR j).toLoadRect.shape.Idx → Elt F .bf16) → Prog (TpuEff nD τ sig (Elt F) Λ₀ .tc) α} :
    recvSt m ρ c a
      ⊢ iprop((recvSt m ρ c a -∗ wp frame (wpE (defs₀ (F := F)) 𝒱₀ (c : Thread nD τ) none) Set.univ (kt (slab (stageV m ρ (off c j)))) Q)
          -∗ wp frame (wpE (defs₀ (F := F)) 𝒱₀ (c : Thread nD τ) none) Set.univ (.op (.load cM (slotR j).toLoadRect hl) kt) Q) := by
  unfold recvSt
  rw [uptoN_take j hj]
  unfold recvGot landedPts slotPts
  iintro ⟨HO, Hn, ⟨Hat, ⟨%f, %hf, Hs⟩⟩, Hrest⟩ Hk
  iapply (wp_load 𝒱₀ (c : Thread nD τ) none Set.univ (m := cM) (S := (slotM j).view.set) (by
    rw [View.set_reshape]
    show _ ⊆ (cM.view.slice (slotR j)).set
    rw [View.set_slice]; exact Finset.Subset.refl _)) $$ Hs
  iintro Hs
  rw [slot_load j c f _ hf]
  iapply Hk
  isplitl [HO]; · iexact HO
  isplitl [Hn]; · iexact Hn
  isplitl [Hat Hs]
  · isplitl [Hat]; · iexact Hat
    iexists f
    isplitr; · (ipureintro; exact hf)
    iexact Hs
  iexact Hrest

/-! ## The waits for the device's own copies -/

def swNeed (c : Dev nD) (k : Fin 7) : sProp 𝕄 := iprop(cred (tallyAt (sendCell c k) () N) ∗ atPos ER (sendCell c k) 0 ∅ 0)
def swSt (c : Dev nD) (a : ℕ) : sProp 𝕄 :=
  iprop(owing c 0 ∗ fromN a (swNeed c) ∗ uptoN a (fun k => atPos ER (sendCell c k) (0 + 1) ∅ 0) ∗ uptoN a (stagePts m ρ c))

theorem sw_step (K : Dev nD × CI → ℕ) (c : Dev nD) (k : Fin 7) {q : DmaSem sig} (hq : q = sendQ k)
    {sp : Space} {s s' : Shape} {e e' : EltTy} {src : Memref sig .tc sp s' e'} {dst : Memref sig .tc .vmem s e}
    (hd : dst.view.dmaCredit = N) {hsrc : src.view.WordExact} {hdst : dst.view.WordExact}
    {α : Type} {Q : α → sProp 𝕄} {kt : PUnit → Prog (TpuEff nD τ sig (Elt F) Λ₀ .tc) α} :
    iprop(records m ρ K ∗ swSt m ρ c k.val)
      ⊢ iprop((swSt m ρ c (k.val + 1) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q src dst hsrc hdst) kt) Q) := by
  subst hq
  unfold swSt owing
  rw [fromN_step k, uptoN_step k, show uptoN (k.val + 1) (stagePts (F := F) m ρ c) = _ from uptoN_step k.castSucc (stagePts m ρ c)]
  unfold swNeed
  iintro ⟨#HR, ⟨%W, HO⟩, ⟨⟨Hc, Hat⟩, Hrest⟩, Hpos, Hst⟩ Hk
  iapply (Rounds.wp_wait_rest_token 𝒱₀ ER (rd m ρ) (c : Thread nD τ) none (κ := K (c, .inr (.inl k)))
      (wpE_waitDma2_eq 𝒱₀ (c : Thread nD τ) none Set.univ) (Set.mem_univ _) () (O := 0) (W := W) (R := 0) (m := 0) (T := ∅)
      (by rw [Nat.zero_add, expect_dma]; exact hd)) $$ [Hc HO Hat]
  · isplitr; · iapply (inv_at m ρ K (c, .inr (.inl k))); iexact HR
    isplitl [Hc]; · rw [hd]; iexact Hc
    isplitl [HO]; · iexact HO
    isplitr; · rw [MayWait_zero]; iempintro
    iexact Hat
  iintro ⟨HO, Hat, -, Hpay⟩
  ihave Hp := (Entails.of_eq (rest_send m ρ c k)) $$ Hpay
  iapply Hk
  isplitl [HO]; · iexists _; iexact HO
  isplitl [Hrest]; · iexact Hrest
  isplitl [Hat Hpos]
  · isplitl [Hat]; · iexact Hat
    iexact Hpos
  isplitl [Hp]; · iexact Hp
  iexact Hst

end Cert.Moe

end
-- ==== Proof.Data.lean ====
/-
What one device computes from what it holds and receives, the proof data of the call, and the rules that cut its buffers into
the parts the protocol moves and put them back together.
-/
module

public import proofs.«01_k».proof.Proof.Steps

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## One device's contribution to the sum, as a function -/

/-- The weight expert `e` gets in each row: the sum of the gates of the choices that name it. -/
def coef (i0 i1 : IVec S256x1 32) (g0 g1 : FVec F S256x1 .f32) (e : BitVec 32) : FVec F S256x1 .f32 :=
  addf (mulf g0 (sitofp .f32 (extui 32 (cmpi .eq i0 (broadcast S256x1 e)) natLt_1_32)))
    (mulf g1 (sitofp .f32 (extui 32 (cmpi .eq i1 (broadcast S256x1 e)) natLt_1_32)))

/-- The tokens, each row scaled. -/
def scaled (x : FVec F S256x128 .f32) (a : FVec F S256x1 .f32) : FVec F S256x128 .f32 :=
  mulf (broadcastTo S256x128 a broadcasts_S256x1_S256x128) x

/-- `acc` plus the share of the two experts of the device whose number is the word `o` and whose pair of matrices is `w`. -/
def chunk (x : FVec F S256x128 .f32) (i0 i1 : IVec S256x1 32) (g0 g1 : FVec F S256x1 .f32) (acc : FVec F S256x256 .f32) (o : BitVec 32)
    (w : FVec F S2x128x256 .bf16) : FVec F S256x256 .f32 :=
  addf acc (matmul dot_S256x256_S256x256_S256x256_1_0_0_1_n_n none
    (truncf .bf16 (concatenate S256x256 1 [⟨S256x128, scaled x (coef i0 i1 g0 g1 (Scalar.muli 2#32 o))⟩,
      ⟨S256x128, scaled x (coef i0 i1 g0 g1 (Scalar.addi (Scalar.muli 2#32 o) 1#32))⟩] concatenates_S256x128_S256x128_S256x256_d1) bitsLt_bf16_f32)
    (shapeCast S256x256 w shapeCasts_S2x128x256_S256x256) (constant S256x256 .f32 0x00000000#32))

/-- A device's number and its peers' numbers, as the words the program computes. -/
def ownW (c : Dev nD) : BitVec 32 := Scalar.remsi (Scalar.divsi (Dev.word c) 1#32) 8#32
def peerW (c : Dev nD) (j : Fin 7) : BitVec 32 := Scalar.remsi (Scalar.addi (Scalar.addi (ownW c) (BitVec.ofNat 32 j.val)) 1#32) 8#32

variable (m : (ℓ : Loc nD τ sig) → Buf (Elt F) ℓ) (ρ : Dev nD → PrngReg)

local notation "𝕄" => MT nD τ sig Unit (Elt F) ℕ UU ℕ

/-- The two columns of the routing choices. -/
def icol0 (c : Dev nD) : Vec F S256x1 .i32 :=
  (iM : Memref sig .tc .vmem S256x2 .i32).view.readAt (Elt F) (Rect.unit (s := S256x2) ![0, 0] S256x1.size inb_S256x2_S256x1_0_0).toLoadRect (istg m ρ c)
def icol1 (c : Dev nD) : Vec F S256x1 .i32 :=
  (iM : Memref sig .tc .vmem S256x2 .i32).view.readAt (Elt F) (Rect.unit (s := S256x2) ![0, 1] S256x1.size inb_S256x2_S256x1_0_1).toLoadRect (istg m ρ c)

/-- The chunk of device `c` over the pair `w` of the device numbered `o`. -/
def chunkAt (c : Dev nD) (acc : FVec F S256x256 .f32) (o : BitVec 32) (w : FVec F S2x128x256 .bf16) : FVec F S256x256 .f32 :=
  chunk (k0_pay2 (xstg m ρ c)) (k0_pay4 (icol0 m ρ c)) (k0_pay5 (icol1 m ρ c)) (k0_pay9 (xstg m ρ c) (rstg m ρ c) (icol0 m ρ c) (icol1 m ρ c))
    (k0_pay10 (xstg m ρ c) (rstg m ρ c) (icol0 m ρ c) (icol1 m ρ c)) acc o w

/-- What device `c` stores: its own share, then the peers', nearest first. -/
def outAt (c : Dev nD) : (cc0_stg4_0 : Ref sig .tc).ty.Contents (Elt F) :=
  ([0, 1, 2, 3, 4, 5, 6] : List (Fin 7)).foldl
    (fun acc j => chunkAt m ρ c acc (peerW c j) (shapeCast S2x128x256 (slab (stageV m ρ (off c j))) shapeCasts_S1x2x128x256_S2x128x256))
    (chunkAt m ρ c k0_pay11 (ownW c) (stageV m ρ c))

/-! ## Whole buffers and their parts -/

abbrev stageLoc (c : Dev nD) : Loc nD τ sig := (c : Thread nD τ).loc cc0_scratch0
abbrev commLoc (c : Dev nD) : Loc nD τ sig := (c : Thread nD τ).loc cc0_scratch1

theorem stage_parts (c : Dev nD) :
    (iprop(stageLoc c ↦{fullShare} stageV m ρ c) : sProp 𝕄) = bigSep Finset.univ (stagePts m ρ c) := by
  have h : ∀ i : Fin 8, stagePts m ρ c i = (iprop(stageLoc c ↦[Finset.univ]{ShareLeaves.leaf 3 fullShare i} stageV m ρ c) : sProp 𝕄) := fun i => by
    unfold stagePts; rw [View.set_whole]
  rw [bigSep_congr (s := Finset.univ) fun i _ => h i]
  generalize stageV m ρ c = w
  exact ShareLeaves.pointsTo_leaves (ℓ := stageLoc c) Finset.univ w 3 fullShare

/-- The elements of slot `j`. -/
def slotI (j : Fin 7) : Finset S7x2x128x256.Idx := (slotR j).set

theorem slot_set (j : Fin 7) : (slotM j).view.set = slotI j := by
  rw [View.set_reshape]
  show (cM.view.slice (slotR j)).set = _
  exact View.set_slice_whole _ _

omit [FloatOps F] in
theorem slotPts_eq (c : Dev nD) (j : Fin 7) (f : Buf (Elt F) (commLoc c)) :
    (slotPts c j f : sProp 𝕄) = iprop(commLoc c ↦[slotI j]{fullShare} f) := by
  unfold slotPts; rw [slot_set]

theorem slots_disjoint (j j' : Fin 7) (h : j ≠ j') : Disjoint (slotI j) (slotI j') :=
  Ring.lead_disjoint (s := S7x2x128x256) (0 : Fin 4) 1 (fun j : Fin 7 => ![j.val, 0, 0, 0]) S1x2x128x256.size inbSlot
    (fun b => (Nat.one_mul _).symm) rfl j j' h

theorem slots_cover : Finset.univ.biUnion slotI = Finset.univ :=
  Ring.lead_cover (s := S7x2x128x256) (0 : Fin 4) 1 (fun j : Fin 7 => ![j.val, 0, 0, 0]) S1x2x128x256.size inbSlot
    (fun b => (Nat.one_mul _).symm) (fun b a ha => by fin_cases a <;> first | exact absurd rfl ha | rfl) rfl
    (fun a ha => by fin_cases a <;> first | exact absurd rfl ha | rfl) rfl

omit [FloatOps F] in
theorem comm_parts (c : Dev nD) (f : Buf (Elt F) (commLoc c)) :
    (iprop(commLoc c ↦{fullShare} f) : sProp 𝕄) ⊢ bigSep Finset.univ fun k : Fin 7 => iprop(∃ f, slotPts c k f) := by
  rw [Ring.pointsTo_blocks (ℓ := commLoc c) slotI slots_disjoint slots_cover f]
  exact bigSep_mono fun j _ => show (iprop(commLoc c ↦[slotI j]{fullShare} f) : sProp 𝕄) ⊢ iprop(∃ f, slotPts c j f) from by
    iintro H
    iexists f
    rw [slotPts_eq]
    iexact H

theorem comm_join (c : Dev nD) (f₀ : Buf (Elt F) (commLoc c)) :
    (bigSep Finset.univ (landedPts m ρ c) : sProp 𝕄) ⊢ iprop(∃ f, commLoc c ↦{fullShare} f) :=
  (bigSep_mono fun j _ => show (landedPts m ρ c j : sProp 𝕄) ⊢ iprop(∃ f, commLoc c ↦[slotI j]{fullShare} f) from by
    unfold landedPts
    iintro ⟨%f, -, H⟩
    iexists f
    rw [← slotPts_eq]
    iexact H).trans
  (Ring.pointsTo_blocks_join_exists (ℓ := commLoc c) slotI slots_disjoint slots_cover f₀)

/-- A family of cells whose rounds are over closes: the counters, at zero, are the device's again. -/
theorem close_family (K : Dev nD × CI → ℕ) (g : Fin 7 → Dev nD × CI) :
    iprop(records m ρ K ∗ bigSep Finset.univ fun k : Fin 7 => atPos ER (kcell (g k)) (0 + 1) ∅ 0)
      ⊢ (|={Set.univ}=> bigSep Finset.univ fun k : Fin 7 => semVal (kcell (g k)) 0 : sProp 𝕄) :=
  (sep_mono_left (BI.bigSep_of_persistent Finset.univ (records m ρ K))).trans (by
    rw [← bigSep_sep']
    exact (bigSep_mono fun k _ => show iprop(records m ρ K ∗ atPos ER (kcell (g k)) (0 + 1) ∅ 0) ⊢ (|={Set.univ}=> semVal (kcell (g k)) 0 : sProp 𝕄) from by
      iintro ⟨HR, Ha⟩
      iapply (Rounds.cell_close ER (rd m ρ) (Set.mem_univ (K (g k))) (fun h => h) (R := 0 + 1) (duties_later m ρ (kcell (g k))))
      isplitl [HR]; · iapply (inv_at m ρ K (g k)); iexact HR
      iexact Ha).trans (bigSep_fupd _ _))

/-! ## The call's proof data -/

/-- What a device has of its own at the start: its positions, and the tokens of the duties it pays. -/
def linear (c : Dev nD) : sProp 𝕄 :=
  iprop((atPos ER (barCell c) 0 ∅ 0 ∗ (bigSep Finset.univ fun k : Fin 7 => atPos ER (sendCell c k) 0 ∅ 0)
      ∗ bigSep Finset.univ fun k : Fin 7 => atPos ER (recvCell c k) 0 ∅ 0)
    ∗ (bigSep Finset.univ fun k : Fin 7 => dutyTok ER (barCell (off c k)) 0 k.rev)
    ∗ (bigSep Finset.univ fun k : Fin 7 => dutyTok ER (sendCell c k) 0 0)
    ∗ bigSep Finset.univ fun k : Fin 7 => dutyTok ER (recvCell (off c k) k.rev) 0 0)

def G' (c : Dev nD) : sProp 𝕄 := iprop(∃ K, records m ρ K ∗ linear c)
def creds (c : Dev nD) : sProp 𝕄 :=
  iprop(cred (tallyAt (barCell c) () 7) ∗ bigSep Finset.univ fun k : Fin 7 => cred (tallyAt (recvCell c k) () N))
def start (c : Dev nD) : sProp 𝕄 := iprop(G' m ρ c ∗ creds c ∗ levAts L lv)

def bufs (c : Dev nD) : sProp 𝕄 := iprop((∃ f, stageLoc c ↦{fullShare} f) ∗ ∃ f, commLoc c ↦{fullShare} f)
def zeros (c : Dev nD) : sProp 𝕄 :=
  iprop((bigSep Finset.univ fun k : Fin 7 => semVal (sendCell c k) 0) ∗ (bigSep Finset.univ fun k : Fin 7 => semVal (recvCell c k) 0)
    ∗ semVal (barCell c) 0)

def Φ₀ (c : Dev nD) : sProp 𝕄 := iprop(start m ρ c ∗ bufs c)
def Φ₁ (c : Dev nD) : sProp 𝕄 := iprop(bufs c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rstg m ρ c
    | ⟨2, _⟩ => istg m ρ c
    | ⟨3, _⟩ => wstg m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev t₀ : Fin cfg0.N := t0_0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.Moe

end
-- ==== Proof.Body.lean ====
/-
One device's run of the kernel, executed symbolically at an arbitrary device: store the stage, signal the peers, wait for them,
start the seven copies, compute while they land, take the stage's shares back and store the result.
-/
module

public import proofs.«01_k».proof.Proof.Data

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

theorem fetch_in (w : Fin 5) (hw : w ≠ 4) (t : Fin cfg0.N) : (cfg0.win w).fetch t = true := by
  rw [fin_N0 t]; fin_cases w <;> first | rfl | exact absurd rfl hw

theorem hz2 : (![0, 0] : Fin 2 → Nat) = fun _ => 0 := funext fun a => by fin_cases a <;> rfl
theorem hz3 : (![0, 0, 0] : Fin 3 → Nat) = fun _ => 0 := funext fun a => by fin_cases a <;> rfl

section Reads

omit [FloatOps F] in
theorem read_x (f : (cc0_stg0_0 : Ref sig .tc).ty.Contents (Elt F)) :
    (xM : Memref sig .tc .vmem S256x128 .f32).view.readAt (Elt F) (Rect.unit (s := S256x128) ![0, 0] S256x128.size inb_S256x128_S256x128_0_0).toLoadRect f = f :=
  Memref.readAt_unit_zero (Elt F) cc0_stg0_0 hz2 _ f
omit [FloatOps F] in
theorem read_r (f : (cc0_stg1_0 : Ref sig .tc).ty.Contents (Elt F)) :
    (rM : Memref sig .tc .vmem S128x16 .f32).view.readAt (Elt F) (Rect.unit (s := S128x16) ![0, 0] S128x16.size inb_S128x16_S128x16_0_0).toLoadRect f = f :=
  Memref.readAt_unit_zero (Elt F) cc0_stg1_0 hz2 _ f
omit [FloatOps F] in
theorem read_w (f : (cc0_stg3_0 : Ref sig .tc).ty.Contents (Elt F)) :
    (wM : Memref sig .tc .vmem S2x128x256 .f32).view.readAt (Elt F) (Rect.unit (s := S2x128x256) ![0, 0, 0] S2x128x256.size inb_S2x128x256_S2x128x256_0_0_0).toLoadRect f = f :=
  Memref.readAt_unit_zero (Elt F) cc0_stg3_0 hz3 _ f
omit [FloatOps F] in
theorem read_s (f : (cc0_scratch0 : Ref sig .tc).ty.Contents (Elt F)) :
    (sM : Memref sig .tc .vmem S2x128x256 .bf16).view.readAt (Elt F) (Rect.unit (s := S2x128x256) ![0, 0, 0] S2x128x256.size inb_S2x128x256_S2x128x256_0_0_0).toLoadRect f = f :=
  Memref.readAt_unit_zero (Elt F) cc0_scratch0 hz3 _ f
omit [FloatOps F] in
theorem write_s (f w : (cc0_scratch0 : Ref sig .tc).ty.Contents (Elt F)) :
    ((sM : Memref sig .tc .vmem S2x128x256 .bf16).access (Rect.unit (s := S2x128x256) ![0, 0, 0] S2x128x256.size inb_S2x128x256_S2x128x256_0_0_0) : View sig .tc _ _ _).write (Elt F) f w Finset.univ = w :=
  Memref.write_access_unit_zero_univ (Elt F) cc0_scratch0 hz3 _ f w
omit [FloatOps F] in
theorem write_o (f w : (cc0_stg4_0 : Ref sig .tc).ty.Contents (Elt F)) :
    ((oM : Memref sig .tc .vmem S256x256 .f32).access (Rect.unit (s := S256x256) ![0, 0] S256x256.size inb_S256x256_S256x256_0_0) : View sig .tc _ _ _).write (Elt F) f w Finset.univ = w :=
  Memref.write_access_unit_zero_univ (Elt F) cc0_stg4_0 hz2 _ f w

end Reads

/-! ## The states between the phases -/

/-- Before the first signal. -/
theorem sig_start (c : Dev nD) (W : Waits sig Unit) (f : Buf (Elt F) (commLoc c)) :
    iprop(owes (c : Thread nD τ) (O₀ c) W ∗ (bigSep Finset.univ fun k : Fin 7 => dutyTok ER (barCell (off c k)) 0 k.rev) ∗ commLoc c ↦{fullShare} f)
      ⊢ (sigSt c 0 : sProp 𝕄) := by
  unfold sigSt owing sigPart
  rw [fromN_zero, bigSep_sep']
  iintro ⟨HO, Ht, Hc⟩
  isplitl [HO]; · iexists W; iexact HO
  isplitl [Ht]; · iexact Ht
  iapply (comm_parts c f); iexact Hc

/-- Before the first copy: the slots the barrier's payers handed over, the tokens, the stage in shares. -/
theorem send_start (c : Dev nD) :
    iprop(owing c (sumFrom 0 (recvT c)) ∗ (bigSep Finset.univ fun k : Fin 7 => barPay c k)
        ∗ (bigSep Finset.univ fun k : Fin 7 => dutyTok ER (sendCell c k) 0 0)
        ∗ (bigSep Finset.univ fun k : Fin 7 => dutyTok ER (recvCell (off c k) k.rev) 0 0) ∗ stageLoc c ↦{fullShare} stageV m ρ c)
      ⊢ (sendSt m ρ c 0 : sProp 𝕄) := by
  unfold sendSt sendPart barPay
  rw [fromN_zero, fromN_zero, uptoN_zero, bigSep_sep', bigSep_sep', bigSep_sep', ← stage_parts]
  iintro ⟨HO, ⟨Hs, -⟩, HtS, HtR, Hst⟩
  isplitl [HO]; · iexact HO
  isplitl [Hs HtS HtR]
  · isplitl [HtS]; · iexact HtS
    isplitl [HtR]; · iexact HtR
    iexact Hs
  isplitl [Hst]; · iexact Hst
  iempintro

/-- After the last copy: nothing owed, one share of the stage left, the credit of all seven copies. -/
theorem send_done (c : Dev nD) :
    (sendSt m ρ c 7 : sProp 𝕄)
      ⊢ iprop(owing c 0 ∗ stagePts m ρ c 7 ∗ bigSep Finset.univ fun k : Fin 7 => cred (tallyAt (sendCell c k) () N)) := by
  unfold sendSt
  rw [sumFrom_end, uptoN_end, show fromN 7 (stagePts (F := F) m ρ c) = _ from fromN_step (7 : Fin 8) (stagePts m ρ c)]
  iintro ⟨HO, -, ⟨Hst, -⟩, Hc⟩
  isplitl [HO]; · iexact HO
  isplitl [Hst]; · iexact Hst
  iexact Hc

theorem recv_start (c : Dev nD) :
    iprop(owing c 0 ∗ (bigSep Finset.univ fun k : Fin 7 => cred (tallyAt (recvCell c k) () N))
        ∗ bigSep Finset.univ fun k : Fin 7 => atPos ER (recvCell c k) 0 ∅ 0)
      ⊢ (recvSt m ρ c 0 : sProp 𝕄) := by
  unfold recvSt recvNeed
  rw [fromN_zero, uptoN_zero, bigSep_sep']
  iintro ⟨HO, Hc, Ha⟩
  isplitl [HO]; · iexact HO
  isplitl [Hc Ha]
  · isplitl [Hc]; · iexact Hc
    iexact Ha
  iempintro

theorem recv_done (c : Dev nD) :
    (recvSt m ρ c 7 : sProp 𝕄)
      ⊢ iprop(owing c 0 ∗ (bigSep Finset.univ fun k : Fin 7 => atPos ER (recvCell c k) (0 + 1) ∅ 0) ∗ bigSep Finset.univ (landedPts m ρ c)) := by
  unfold recvSt recvGot
  rw [uptoN_end, bigSep_sep']
  iintro ⟨HO, -, Ha, Hl⟩
  isplitl [HO]; · iexact HO
  isplitl [Ha]; · iexact Ha
  iexact Hl

theorem sw_start (c : Dev nD) :
    iprop(owing c 0 ∗ (bigSep Finset.univ fun k : Fin 7 => cred (tallyAt (sendCell c k) () N))
        ∗ bigSep Finset.univ fun k : Fin 7 => atPos ER (sendCell c k) 0 ∅ 0)
      ⊢ (swSt m ρ c 0 : sProp 𝕄) := by
  unfold swSt swNeed
  rw [fromN_zero, uptoN_zero, uptoN_zero, bigSep_sep']
  iintro ⟨HO, Hc, Ha⟩
  isplitl [HO]; · iexact HO
  isplitl [Hc Ha]
  · isplitl [Hc]; · iexact Hc
    iexact Ha
  isplitr <;> iempintro

theorem sw_done (c : Dev nD) :
    iprop(swSt m ρ c 7 ∗ stagePts m ρ c 7 : sProp 𝕄)
      ⊢ iprop(owing c 0 ∗ (bigSep Finset.univ fun k : Fin 7 => atPos ER (sendCell c k) (0 + 1) ∅ 0) ∗ stageLoc c ↦{fullShare} stageV m ρ c) := by
  unfold swSt
  rw [uptoN_end, stage_parts, ← uptoN_end (n := 8), show uptoN 8 (stagePts (F := F) m ρ c) = _ from uptoN_step (7 : Fin 8) (stagePts m ρ c)]
  iintro ⟨⟨HO, -, Ha, Hs⟩, H7⟩
  isplitl [HO]; · iexact HO
  isplitl [Ha]; · iexact Ha
  isplitl [H7]; · iexact H7
  iexact Hs

theorem close_all (c : Dev nD) :
    iprop(records m ρ K ∗ (bigSep Finset.univ fun k : Fin 7 => atPos ER (sendCell c k) (0 + 1) ∅ 0)
        ∗ (bigSep Finset.univ fun k : Fin 7 => atPos ER (recvCell c k) (0 + 1) ∅ 0) ∗ atPos ER (barCell c) (0 + 1) ∅ 0)
      ⊢ (|={Set.univ}=> zeros c : sProp 𝕄) := by
  iintro ⟨#HR, HS, HV, HB⟩
  imod (close_family m ρ K fun k => (c, .inr (.inl k))) $$ [HS] with HzS
  · isplitr; · iexact HR
    iexact HS
  imod (close_family m ρ K fun k => (c, .inr (.inr k))) $$ [HV] with HzV
  · isplitr; · iexact HR
    iexact HV
  imod (Rounds.cell_close ER (rd m ρ) (Set.mem_univ (K (c, .inl ()))) (fun h => h) (R := 0 + 1) (duties_later m ρ (barCell c))) $$ [HB] with HzB
  · isplitr; · iapply (inv_at m ρ K (c, .inl ())); iexact HR
    iexact HB
  imodintro
  unfold zeros
  isplitl [HzS]; · iexact HzS
  isplitl [HzV]; · iexact HzV
  iexact HzB

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((((records m ρ K ∗ linear c) ∗ creds c ∗ levAts L lv) ∗ bufs c)
    ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 :=
  iprop(Φ₁ c ∗ (dats m ρ 0 c).owesAt () t₀.succ ∗ stg c cc0_stg0_0 (xstg m ρ c) ∗ stg c cc0_stg1_0 (rstg m ρ c)
    ∗ stg c cc0_stg2_0 (istg m ρ c) ∗ stg c cc0_stg3_0 (wstg m ρ c) ∗ stg c cc0_stg4_0 (outAt m ρ c))

set_option maxHeartbeats 4000000 in
set_option maxRecDepth 8000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_scratch0) (Memref.isWhole_whole _)
            (Memref.whole cc0_scratch1) (Memref.isWhole_whole _) cc0_scratch2 cc0_scratch3) Kt := by
  simp only [cc0_body_eq_skeleton, k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton,
    k0_part12_eq_skeleton, k0_part13_eq_skeleton, k0_part14_eq_skeleton]
  unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton,
    k0_part12_eq_skeleton, k0_part13_eq_skeleton, k0_part14_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel
  simp only [semSignalWord, semWaitWord, Prog.lift, Prog.bind_op, Prog.bind_ret, Prog.pure_eq_ret, wp_deviceId]
  unfold bodyPre linear creds bufs
  iintro ⟨⟨⟨⟨⟨#HR, ⟨HatB, HatS, HatV⟩, HtB, HtS, HtV⟩, ⟨HcB, HcV⟩, #Hlev⟩, ⟨%fs, Hst⟩, ⟨%fc, Hcm⟩⟩,
    Ho, ⟨%d0, %g0, %hg0, Hx⟩, ⟨%d1, %g1, %hg1, Hr⟩, ⟨%d2, %g2, %hg2, Hi⟩, ⟨%d3, %g3, %hg3, Hw⟩, ⟨%d4, %g4, %hg4, Hout⟩⟩, Hk⟩
  have hx : g0 = xstg m ρ c := by rw [hg0]; unfold Dat.before; rw [if_pos (fetch_in 0 (by decide) t₀)]; rfl
  have hr : g1 = rstg m ρ c := by rw [hg1]; unfold Dat.before; rw [if_pos (fetch_in 1 (by decide) t₀)]; rfl
  have hi : g2 = istg m ρ c := by rw [hg2]; unfold Dat.before; rw [if_pos (fetch_in 2 (by decide) t₀)]; rfl
  have hw : g3 = wstg m ρ c := by rw [hg3]; unfold Dat.before; rw [if_pos (fetch_in 3 (by decide) t₀)]; rfl
  subst hx hr hi hw
  unfold Dat.owesAt Pipeline.owesWithin
  icases Ho with ⟨%W, %hW, HO⟩
  rw [show (dats m ρ 0 c).owed t₀.castSucc = O₀ c from rfl]
  iapply (wp_load 𝒱₀ (c : Thread nD τ) none Set.univ (m := wM) (Finset.subset_univ _)) $$ Hw; iintro Hw
  rw [read_w]
  iapply (wp_load 𝒱₀ (c : Thread nD τ) none Set.univ (m := sM) (Finset.subset_univ _)) $$ Hst; iintro Hst
  iapply (wp_store 𝒱₀ (c : Thread nD τ) none Set.univ (m := sM)
    (r := Rect.unit (s := S2x128x256) ![0, 0, 0] S2x128x256.size inb_S2x128x256_S2x128x256_0_0_0) (Mk := Finset.univ) (Finset.subset_univ _)) $$ Hst; iintro Hst
  rw [write_s]
  ihave HS := (sig_start c W fc) $$ [HO HtB Hcm]
  · isplitl [HO]; · iexact HO
    isplitl [HtB]; · iexact HtB
    iexact Hcm
  iapply (signal_step m ρ K c _ ⟨0, by decide⟩ (Fin.ext (k0_dev1_eq c)) rfl) $$ [HS]
  · isplitr; · iexact HR
    iexact HS
  iintro HS
  iapply (signal_step m ρ K c _ ⟨1, by decide⟩ (Fin.ext (k0_dev2_eq c)) rfl) $$ [HS]
  · isplitr; · iexact HR
    iexact HS
  iintro HS
  iapply (signal_step m ρ K c _ ⟨2, by decide⟩ (Fin.ext (k0_dev3_eq c)) rfl) $$ [HS]
  · isplitr; · iexact HR
    iexact HS
  iintro HS
  iapply (signal_step m ρ K c _ ⟨3, by decide⟩ (Fin.ext (k0_dev4_eq c)) rfl) $$ [HS]
  · isplitr; · iexact HR
    iexact HS
  iintro HS
  iapply (signal_step m ρ K c _ ⟨4, by decide⟩ (Fin.ext (k0_dev5_eq c)) rfl) $$ [HS]
  · isplitr; · iexact HR
    iexact HS
  iintro HS
  iapply (signal_step m ρ K c _ ⟨5, by decide⟩ (Fin.ext (k0_dev6_eq c)) rfl) $$ [HS]
  · isplitr; · iexact HR
    iexact HS
  iintro HS
  iapply (signal_step m ρ K c _ ⟨6, by decide⟩ (Fin.ext (k0_dev7_eq c)) rfl) $$ [HS]
  · isplitr; · iexact HR
    iexact HS
  iintro HS
  iapply (barrier_step m ρ K c rfl) $$ [HS HcB HatB]
  · isplitr; · iexact HR
    isplitr; · iexact Hlev
    isplitl [HS]; · iexact HS
    isplitl [HcB]; · iexact HcB
    iexact HatB
  iintro ⟨HO, HatB, Hpay⟩
  ihave HS := (send_start m ρ c) $$ [HO Hpay HtS HtV Hst]
  · isplitl [HO]; · iexact HO
    isplitl [Hpay]; · iexact Hpay
    isplitl [HtS]; · iexact HtS
    isplitl [HtV]; · iexact HtV
    iexact Hst
  iapply (send_step m ρ K c _ ⟨0, by decide⟩ (Fin.ext (k0_dev8_eq c)) rfl rfl rfl) $$ [HS]
  · isplitr; · iexact HR
    iexact HS
  iintro HS
  iapply (send_step m ρ K c _ ⟨1, by decide⟩ (Fin.ext (k0_dev9_eq c)) rfl rfl rfl) $$ [HS]
  · isplitr; · iexact HR
    iexact HS
  iintro HS
  iapply (send_step m ρ K c _ ⟨2, by decide⟩ (Fin.ext (k0_dev10_eq c)) rfl rfl rfl) $$ [HS]
  · isplitr; · iexact HR
    iexact HS
  iintro HS
  iapply (send_step m ρ K c _ ⟨3, by decide⟩ (Fin.ext (k0_dev11_eq c)) rfl rfl rfl) $$ [HS]
  · isplitr; · iexact HR
    iexact HS
  iintro HS
  iapply (send_step m ρ K c _ ⟨4, by decide⟩ (Fin.ext (k0_dev12_eq c)) rfl rfl rfl) $$ [HS]
  · isplitr; · iexact HR
    iexact HS
  iintro HS
  iapply (send_step m ρ K c _ ⟨5, by decide⟩ (Fin.ext (k0_dev13_eq c)) rfl rfl rfl) $$ [HS]
  · isplitr; · iexact HR
    iexact HS
  iintro HS
  iapply (send_step m ρ K c _ ⟨6, by decide⟩ (Fin.ext (k0_dev14_eq c)) rfl rfl rfl) $$ [HS]
  · isplitr; · iexact HR
    iexact HS
  iintro HS
  ihave HD := (send_done m ρ c) $$ HS
  icases HD with ⟨HO, H7, HcS⟩
  iapply (wp_load 𝒱₀ (c : Thread nD τ) none Set.univ (m := xM) (Finset.subset_univ _)) $$ Hx; iintro Hx
  rw [read_x]
  iapply (wp_load 𝒱₀ (c : Thread nD τ) none Set.univ (m := rM) (Finset.subset_univ _)) $$ Hr; iintro Hr
  rw [read_r]
  iapply (wp_load 𝒱₀ (c : Thread nD τ) none Set.univ (m := iM) (Finset.subset_univ _)) $$ Hi; iintro Hi
  iapply (wp_load 𝒱₀ (c : Thread nD τ) none Set.univ (m := iM) (Finset.subset_univ _)) $$ Hi; iintro Hi
  unfold stagePts
  iapply (wp_load 𝒱₀ (c : Thread nD τ) none Set.univ (m := sM) (by rw [View.set_whole]; exact Finset.subset_univ _)) $$ H7; iintro H7
  rw [read_s]
  ihave HS := (recv_start m ρ c) $$ [HO HcV HatV]
  · isplitl [HO]; · iexact HO
    isplitl [HcV]; · iexact HcV
    iexact HatV
  iapply (recv_step m ρ K c ⟨0, by decide⟩ (src := sM) (dst := slotM ⟨0, by decide⟩) rfl (slot_credit _)) $$ [HS]
  · isplitr; · iexact HR
    iexact HS
  iintro HS
  iapply (load_step m ρ c ⟨0, by decide⟩ (a := 1) (by decide)) $$ HS; iintro HS
  iapply (recv_step m ρ K c ⟨1, by decide⟩ (src := sM) (dst := slotM ⟨1, by decide⟩) rfl (slot_credit _)) $$ [HS]
  · isplitr; · iexact HR
    iexact HS
  iintro HS
  iapply (load_step m ρ c ⟨1, by decide⟩ (a := 2) (by decide)) $$ HS; iintro HS
  iapply (recv_step m ρ K c ⟨2, by decide⟩ (src := sM) (dst := slotM ⟨2, by decide⟩) rfl (slot_credit _)) $$ [HS]
  · isplitr; · iexact HR
    iexact HS
  iintro HS
  iapply (load_step m ρ c ⟨2, by decide⟩ (a := 3) (by decide)) $$ HS; iintro HS
  iapply (recv_step m ρ K c ⟨3, by decide⟩ (src := sM) (dst := slotM ⟨3, by decide⟩) rfl (slot_credit _)) $$ [HS]
  · isplitr; · iexact HR
    iexact HS
  iintro HS
  iapply (load_step m ρ c ⟨3, by decide⟩ (a := 4) (by decide)) $$ HS; iintro HS
  iapply (recv_step m ρ K c ⟨4, by decide⟩ (src := sM) (dst := slotM ⟨4, by decide⟩) rfl (slot_credit _)) $$ [HS]
  · isplitr; · iexact HR
    iexact HS
  iintro HS
  iapply (load_step m ρ c ⟨4, by decide⟩ (a := 5) (by decide)) $$ HS; iintro HS
  iapply (recv_step m ρ K c ⟨5, by decide⟩ (src := sM) (dst := slotM ⟨5, by decide⟩) rfl (slot_credit _)) $$ [HS]
  · isplitr; · iexact HR
    iexact HS
  iintro HS
  iapply (load_step m ρ c ⟨5, by decide⟩ (a := 6) (by decide)) $$ HS; iintro HS
  iapply (recv_step m ρ K c ⟨6, by decide⟩ (src := sM) (dst := slotM ⟨6, by decide⟩) rfl (slot_credit _)) $$ [HS]
  · isplitr; · iexact HR
    iexact HS
  iintro HS
  iapply (load_step m ρ c ⟨6, by decide⟩ (a := 7) (by decide)) $$ HS; iintro HS
  ihave HD := (recv_done m ρ c) $$ HS
  icases HD with ⟨HO, HatV, Hlanded⟩
  ihave HS := (sw_start m ρ c) $$ [HO HcS HatS]
  · isplitl [HO]; · iexact HO
    isplitl [HcS]; · iexact HcS
    iexact HatS
  iapply (sw_step m ρ K c ⟨0, by decide⟩ (src := slotM ⟨6, by decide⟩) (dst := sM) rfl stage_credit) $$ [HS]
  · isplitr; · iexact HR
    iexact HS
  iintro HS
  iapply (sw_step m ρ K c ⟨1, by decide⟩ (src := slotM ⟨5, by decide⟩) (dst := sM) rfl stage_credit) $$ [HS]
  · isplitr; · iexact HR
    iexact HS
  iintro HS
  iapply (sw_step m ρ K c ⟨2, by decide⟩ (src := slotM ⟨4, by decide⟩) (dst := sM) rfl stage_credit) $$ [HS]
  · isplitr; · iexact HR
    iexact HS
  iintro HS
  iapply (sw_step m ρ K c ⟨3, by decide⟩ (src := slotM ⟨3, by decide⟩) (dst := sM) rfl stage_credit) $$ [HS]
  · isplitr; · iexact HR
    iexact HS
  iintro HS
  iapply (sw_step m ρ K c ⟨4, by decide⟩ (src := slotM ⟨2, by decide⟩) (dst := sM) rfl stage_credit) $$ [HS]
  · isplitr; · iexact HR
    iexact HS
  iintro HS
  iapply (sw_step m ρ K c ⟨5, by decide⟩ (src := slotM ⟨1, by decide⟩) (dst := sM) rfl stage_credit) $$ [HS]
  · isplitr; · iexact HR
    iexact HS
  iintro HS
  iapply (sw_step m ρ K c ⟨6, by decide⟩ (src := slotM ⟨0, by decide⟩) (dst := sM) rfl stage_credit) $$ [HS]
  · isplitr; · iexact HR
    iexact HS
  iintro HS
  ihave HD := (sw_done m ρ c) $$ [HS H7]
  · isplitl [HS]; · iexact HS
    unfold stagePts; iexact H7
  icases HD with ⟨HO, HatS, Hst⟩
  imod (close_all m ρ K c) $$ [HatS HatV HatB] with Hz
  · isplitr; · iexact HR
    isplitl [HatS]; · iexact HatS
    isplitl [HatV]; · iexact HatV
    iexact HatB
  ihave Hcm := (comm_join m ρ c fc) $$ Hlanded
  iapply (wp_load 𝒱₀ (c : Thread nD τ) none Set.univ (m := oM) (Finset.subset_univ _)) $$ Hout; iintro Hout
  iapply (wp_store 𝒱₀ (c : Thread nD τ) none Set.univ (m := oM)
    (r := Rect.unit (s := S256x256) ![0, 0] S256x256.size inb_S256x256_S256x256_0_0) (Mk := Finset.univ) (Finset.subset_univ _)) $$ Hout; iintro Hout
  rw [write_o, wp_ret]; imodintro
  iapply Hk
  unfold bodyPost Φ₁ bufs Dat.owesAt Pipeline.owesWithin owing
  rw [show (dats m ρ 0 c).owed t₀.succ = 0 from rfl]
  icases HO with ⟨%W', HO⟩
  isplitl [Hst Hcm Hz]
  · isplitl [Hst Hcm]
    · isplitl [Hst]; · iexists _; iexact Hst
      iexact Hcm
    iexact Hz
  isplitl [HO]
  · iexists W'
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [Hi]
  · iexists _; isplitr; · (ipureintro; rfl)
    iexact Hi
  isplitl [Hw]
  · iexists _; isplitr; · (ipureintro; rfl)
    iexact Hw
  iexists _
  isplitr; · (ipureintro; rfl)
  iexact Hout

/-- The obligation the launch asks of the body on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show iprop((Φ₀ m ρ c) ∗ (dats m ρ 0 c).owesAt () t₀.castSucc
      ∗ (∃ d, stg c cc0_stg0_0 ((dats m ρ 0 c).before (0 : Fin 5) t₀ d))
      ∗ (∃ d, stg c cc0_stg1_0 ((dats m ρ 0 c).before (1 : Fin 5) t₀ d))
      ∗ (∃ d, stg c cc0_stg2_0 ((dats m ρ 0 c).before (2 : Fin 5) t₀ d))
      ∗ (∃ d, stg c cc0_stg3_0 ((dats m ρ 0 c).before (3 : Fin 5) t₀ d))
      ∗ (∃ d, stg c cc0_stg4_0 ((dats m ρ 0 c).before (4 : Fin 5) t₀ d)))
    ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_scratch0) (Memref.isWhole_whole _)
            (Memref.whole cc0_scratch1) (Memref.isWhole_whole _) cc0_scratch2 cc0_scratch3) (fun _ => bodyPost m ρ c)
  unfold Φ₀ start G'
  iintro ⟨⟨⟨⟨%K, Hg⟩, Hrest⟩, Hb⟩, Hs⟩
  iapply (sound_body m ρ K c fun _ => bodyPost m ρ c)
  unfold bodyPre
  isplitr []
  · isplitl [Hg Hrest Hb]
    · isplitl [Hg Hrest]
      · isplitl [Hg]; · iexact Hg
        iexact Hrest
      iexact Hb
    iexact Hs
  · iintro H; iexact H

end Cert.Moe

end
-- ==== Proof.Run.lean ====
/-
The launch: the cells and tokens the run starts from, the tokens dealt to their payers, the credit each device starts with, and the
run of the whole program from any memory whose counters are zero.
-/
module

public import proofs.«01_k».proof.Proof.Body
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores, and the cells -/

/-- The send and receive semaphores. -/
abbrev osem : Fin 7 ⊕ Fin 7 → SemLoc sig := fun i => csem (.inr i)

theorem ownSemFacts : Pipeline.OwnSemFacts cfg0.spec osem := by decide

theorem csem_inj : Function.Injective csem := by decide

theorem kcell_inj : Function.Injective kcell := fun ⟨c, k⟩ ⟨c', k'⟩ h => by
  have hc : c = c' := congrArg (fun g : GSem nD τ sig => g.1.1) h
  have hk : k = k' := csem_inj (congrArg Prod.snd h)
  rw [hc, hk]

def allCells : Finset (GSem nD τ sig) := Finset.univ.map ⟨kcell, kcell_inj⟩

/-- The duties of a device's cells: seven of the barrier, one of each send and each receive cell. -/
abbrev TI : Type := Fin 7 ⊕ (Fin 7 ⊕ Fin 7)
abbrev tok (ct : Dev nD × TI) : GSem nD τ sig × ℕ × Fin 7 := match ct.2 with
  | .inl k => (barCell ct.1, 0, k)
  | .inr i => (kcell (ct.1, .inr i), 0, 0)

theorem tok_inj : Function.Injective tok := by
  rintro ⟨c, k | i⟩ ⟨c', k' | i'⟩ h
  · have hc : c = c' := congrArg (fun x : GSem nD τ sig × ℕ × Fin 7 => x.1.1.1) h
    have hk : k = k' := congrArg (fun x : GSem nD τ sig × ℕ × Fin 7 => x.2.2) h
    rw [hc, hk]
  · exact absurd (kcell_inj (a₁ := (c, .inl ())) (congrArg Prod.fst h)) fun h' => by cases congrArg Prod.snd h'
  · exact absurd (kcell_inj (a₂ := (c', .inl ())) (congrArg Prod.fst h)) fun h' => by cases congrArg Prod.snd h'
  · have h' := kcell_inj (congrArg Prod.fst h)
    have hc : c = c' := congrArg Prod.fst h'
    have hi : i = i' := Sum.inr.inj (congrArg Prod.snd h')
    rw [hc, hi]

def allToks : Finset (GSem nD τ sig × ℕ × Fin 7) := Finset.univ.map ⟨tok, tok_inj⟩

def u₀ : UU := (initOf (Pipeline.cells cfgs cellOf_inj) (Pipeline.launchToks cfgs cellOf_inj), initOf allCells allToks)

/-- The tokens of the duties of device `c`'s own cells. -/
def ownToks (c : Dev nD) : sProp 𝕄 :=
  iprop((bigSep Finset.univ fun k : Fin 7 => dutyTok ER (barCell c) 0 k) ∗ (bigSep Finset.univ fun k : Fin 7 => dutyTok ER (sendCell c k) 0 0)
    ∗ bigSep Finset.univ fun k : Fin 7 => dutyTok ER (recvCell c k) 0 0)

def G (c : Dev nD) : sProp 𝕄 :=
  iprop((bigSep Finset.univ fun k : CI => roundState ER (rd m ρ) (kcell (c, k)) 0)
    ∗ (bigSep Finset.univ fun k : CI => atPos ER (kcell (c, k)) 0 ∅ 0) ∗ (bigSep Finset.univ fun k : CI => reached ER (kcell (c, k)) 0) ∗ ownToks c)

omit [FloatOps F] in
theorem bigSep_CI (Φ : CI → sProp 𝕄) :
    bigSep Finset.univ Φ = iprop(Φ (.inl ()) ∗ (bigSep Finset.univ fun k : Fin 7 => Φ (.inr (.inl k))) ∗ bigSep Finset.univ fun k : Fin 7 => Φ (.inr (.inr k))) := by
  rw [bigSep_univ_sum, bigSep_univ_sum, bigSep_univ_of_subsingleton ()]; rfl

omit [FloatOps F] in
theorem over_cells (Φ : GSem nD τ sig → sProp 𝕄) :
    bigSep allCells Φ = bigSep Finset.univ fun c : Dev nD => bigSep Finset.univ fun k : CI => Φ (kcell (c, k)) := by
  unfold allCells; rw [bigSep_map, bigSep_univ_prod]; rfl

omit [FloatOps F] in
theorem over_toks : bigSep allToks (fun x => (dutyTok ER x.1 x.2.1 x.2.2 : sProp 𝕄)) = bigSep Finset.univ fun c : Dev nD => ownToks c := by
  unfold allToks
  rw [bigSep_map, bigSep_univ_prod]
  exact bigSep_congr fun c _ => by unfold ownToks; rw [bigSep_univ_sum, bigSep_univ_sum]; rfl

theorem fund_all : BI.own (ER (initOf allCells allToks)) ⊢ (|==> bigSep Finset.univ (G m ρ) : sProp 𝕄) := by
  iintro HX
  imod (Rounds.fund ER (rd m ρ) allCells allToks) $$ HX with ⟨Hst, Hr, Hat, Htok⟩
  imodintro
  ihave Hst' := (Entails.of_eq (over_cells fun g => roundState ER (rd m ρ) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  unfold G; simp only [bigSep_sep']
  isplitl [Hst']; · iexact Hst'
  isplitl [Hat']; · iexact Hat'
  isplitl [Hr']; · iexact Hr'
  iexact Htok'

/-! ## The counters at zero -/

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun k : Fin 7 => semVal (sendCell c k) 0) ∗ bigSep Finset.univ fun k : Fin 7 => semVal (recvCell c k) 0) := by
  unfold Pipeline.ownSems0; rw [bigSep_univ_sum]; rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The global step -/

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CI => iprop(∃ κ : ℕ, cellInv ER (rd m ρ) κ (kcell (c, k))))
          ∗ (bigSep Finset.univ fun k : CI => atPos ER (kcell (c, k)) 0 ∅ 0) ∗ (bigSep Finset.univ fun k : CI => reached ER (kcell (c, k)) 0) ∗ ownToks c) := by
  unfold G
  rw [ownSems0_eq, unscopedSems0_eq]
  iintro ⟨⟨HS, HV⟩, HB, Hst, Hrest⟩
  imod (show iprop((bigSep Finset.univ fun k : CI => semVal (kcell (c, k)) 0) ∗ bigSep Finset.univ fun k : CI => roundState ER (rd m ρ) (kcell (c, k)) 0)
      ⊢ (|={Set.univ}=> bigSep Finset.univ fun k : CI => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [HS HV HB Hst] with Hinv
  · isplitr [Hst]
    · rw [bigSep_CI]
      isplitl [HB]; · iexact HB
      isplitl [HS]; · iexact HS
      iexact HV
    iexact Hst
  imodintro
  isplitl [Hinv]; · iexact Hinv
  iexact Hrest

omit [FloatOps F] in
/-- Seven items of each device dealt out: item `k` of a device goes to its peer `k`. -/
theorem deal (T : Dev nD → Fin 7 → sProp 𝕄) :
    (bigSep Finset.univ fun c : Dev nD => bigSep Finset.univ fun k : Fin 7 => T c k)
      = bigSep Finset.univ fun c : Dev nD => bigSep Finset.univ fun k : Fin 7 => T (off c k) k.rev := by
  rw [bigSep_univ_comm, bigSep_univ_comm (fun (c : Dev nD) (k : Fin 7) => T (off c k) k.rev),
    bigSep_univ_equiv Fin.revPerm (fun k : Fin 7 => bigSep Finset.univ fun c : Dev nD => T c k)]
  exact bigSep_congr fun k _ => bigSep_univ_equiv (ring k) (fun c : Dev nD => T c k.rev)

omit [FloatOps F] in
theorem toks_dealt :
    (bigSep Finset.univ fun c : Dev nD => (ownToks c : sProp 𝕄))
      ⊢ bigSep Finset.univ fun c : Dev nD => iprop((bigSep Finset.univ fun k : Fin 7 => dutyTok ER (barCell (off c k)) 0 k.rev)
          ∗ (bigSep Finset.univ fun k : Fin 7 => dutyTok ER (sendCell c k) 0 0)
          ∗ bigSep Finset.univ fun k : Fin 7 => dutyTok ER (recvCell (off c k) k.rev) 0 0) := by
  unfold ownToks
  rw [bigSep_sep', bigSep_sep', bigSep_sep', bigSep_sep', deal (fun c k => dutyTok ER (barCell c) 0 k), deal (fun c k => dutyTok ER (recvCell c k) 0 0)]

theorem regroup :
    (bigSep Finset.univ fun c : Dev nD => iprop((bigSep Finset.univ fun k : CI => iprop(∃ κ : ℕ, cellInv ER (rd m ρ) κ (kcell (c, k))))
          ∗ (bigSep Finset.univ fun k : CI => atPos ER (kcell (c, k)) 0 ∅ 0) ∗ (bigSep Finset.univ fun k : CI => reached ER (kcell (c, k)) 0) ∗ ownToks c) : sProp 𝕄)
      ⊢ bigSep Finset.univ (G' m ρ) := by
  rw [bigSep_sep', bigSep_sep', bigSep_sep', ← bigSep_univ_prod (fun ck : Dev nD × CI => iprop(∃ κ : ℕ, cellInv ER (rd m ρ) κ (kcell ck))),
    ← bigSep_univ_prod (fun ck : Dev nD × CI => (reached ER (kcell ck) 0 : sProp 𝕄))]
  iintro ⟨HI, Hat, #HR, Htok⟩
  ihave HK := (BI.bigSep_exists_pi Finset.univ (fun (ck : Dev nD × CI) (κ : ℕ) => (cellInv ER (rd m ρ) κ (kcell ck) : sProp 𝕄))) $$ HI
  icases HK with ⟨%K, #HI⟩
  ihave Htk := (toks_dealt (F := F)) $$ Htok
  iapply (show iprop(records m ρ K ∗ bigSep Finset.univ fun c : Dev nD => linear c) ⊢ (bigSep Finset.univ (G' m ρ) : sProp 𝕄) from
    (sep_mono_left (BI.bigSep_of_persistent Finset.univ (records m ρ K))).trans (by
      rw [← bigSep_sep']
      exact bigSep_mono fun c _ => show iprop(records m ρ K ∗ linear c) ⊢ (G' m ρ c : sProp 𝕄) from by
        unfold G'
        iintro H
        iexists K
        iexact H))
  isplitr
  · unfold records
    isplitl; · iexact HI
    iexact HR
  · ihave Hat' := (Entails.of_eq (bigSep_congr (s := Finset.univ) fun (c : Dev nD) _ => bigSep_CI fun k : CI => (atPos ER (kcell (c, k)) 0 ∅ 0 : sProp 𝕄))) $$ Hat
    unfold linear
    iapply (Entails.of_eq (bigSep_sep' Finset.univ _ _).symm)
    isplitl [Hat']
    · iexact Hat'
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at the start -/

theorem bar_ne_recv (c c' : Dev nD) (k : Fin 7) : barCell c ≠ recvCell c' k := fun h => by cases congrArg Prod.snd h

theorem sum_ring (k : Fin 7) (c : Dev nD) (v : ℕ) : (∑ d : Dev nD, if off d k = c then v else 0) = v := by
  rw [Fintype.sum_equiv (ring k) (fun d => if off d k = c then v else 0) (fun d => if d = c then v else 0) fun d => rfl,
    Finset.sum_ite_eq' Finset.univ c fun _ => v, if_pos (Finset.mem_univ _)]

theorem owed_bar (d c : Dev nD) : O₀ d (barCell c) () = ∑ k : Fin 7, if off d k = c then 1 else 0 := by
  unfold O₀ owedSig
  rw [Pi.add_apply, Finsupp.add_apply, sumFrom_apply, sumFrom_apply, Finset.filter_true_of_mem fun i _ => Nat.zero_le _,
    Finset.sum_eq_zero fun k _ => by unfold recvT; rw [tallyAt_ne_cell (bar_ne_recv c (off d k) k.rev)]; rfl, zero_add]
  refine Finset.sum_congr rfl fun k _ => ?_
  unfold barT
  rw [tallyAt_apply]
  exact if_congr ⟨fun h => (congrArg (fun g : GSem nD τ sig => g.1.1) h.1).symm, fun h => ⟨by rw [h], rfl⟩⟩ rfl rfl

theorem owed_recv (d c : Dev nD) (j : Fin 7) : O₀ d (recvCell c j) () = ∑ k : Fin 7, if k = j.rev then (if off d k = c then N else 0) else 0 := by
  unfold O₀ owedSig
  rw [Pi.add_apply, Finsupp.add_apply, sumFrom_apply, sumFrom_apply, Finset.filter_true_of_mem fun i _ => Nat.zero_le _,
    Finset.sum_eq_zero (f := fun k => barT d k (recvCell c j) ()) fun k _ => by
      unfold barT
      rw [tallyAt_ne_cell (bar_ne_recv (off d k) c j).symm]; rfl, add_zero]
  refine Finset.sum_congr rfl fun k _ => ?_
  unfold recvT
  rw [tallyAt_apply, ← ite_and]
  refine if_congr ⟨fun h => ?_, fun h => ⟨by rw [h.2, h.1, Fin.rev_rev], rfl⟩⟩ rfl rfl
  have h' := kcell_inj (a₁ := (c, .inr (.inr j))) (a₂ := (off d k, .inr (.inr k.rev))) h.1
  exact ⟨by rw [show j = k.rev from Sum.inr.inj (Sum.inr.inj (congrArg Prod.snd h')), Fin.rev_rev], (congrArg Prod.fst h').symm⟩

theorem launch_bar (c : Dev nD) :
    tallyOn (barCell c) (launchCredit (Pipeline.owing O₀) 0 (barCell c)) = (tallyAt (barCell c) () 7 : CellTallies nD τ sig Unit) := by
  unfold tallyAt
  refine congrArg _ (Finsupp.ext fun u => ?_)
  cases u
  rw [Pipeline.launchCredit_owing, Finsupp.single_eq_same, Finset.sum_congr rfl fun d _ => owed_bar d c, Finset.sum_comm,
    Finset.sum_congr rfl fun k _ => sum_ring k c 1]
  rfl

theorem launch_recv (c : Dev nD) (j : Fin 7) :
    tallyOn (recvCell c j) (launchCredit (Pipeline.owing O₀) 0 (recvCell c j)) = (tallyAt (recvCell c j) () N : CellTallies nD τ sig Unit) := by
  unfold tallyAt
  refine congrArg _ (Finsupp.ext fun u => ?_)
  cases u
  rw [Pipeline.launchCredit_owing, Finsupp.single_eq_same, Finset.sum_congr rfl fun d _ => (owed_recv d c j).trans (Finset.sum_ite_eq' Finset.univ j.rev _),
    Finset.sum_congr rfl fun d _ => if_pos (Finset.mem_univ _), sum_ring]

/-- The semaphores a device is owed credit on. -/
abbrev creditSem : Unit ⊕ Fin 7 → SemLoc sig := fun | .inl _ => .reg barS | .inr k => .dma (recvQ k)
theorem creditSem_inj : Function.Injective creditSem := by decide

omit [FloatOps F] in
theorem creds_intro (c : Dev nD) : (Pipeline.launchCred O₀ c : sProp 𝕄) ⊢ creds c := by
  unfold Pipeline.launchCred creds
  refine (bigSep_subset (Finset.subset_univ (Finset.univ.map ⟨creditSem, creditSem_inj⟩))).trans ?_
  rw [bigSep_map, bigSep_univ_sum, bigSep_univ_of_subsingleton ()]
  refine (Entails.of_eq ?_ : (_ : sProp 𝕄) ⊢ _)
  show (iprop(cred (tallyOn (barCell c) (launchCredit (Pipeline.owing O₀) 0 (barCell c)))
      ∗ bigSep Finset.univ fun k : Fin 7 => cred (tallyOn (recvCell c k) (launchCredit (Pipeline.owing O₀) 0 (recvCell c k)))) : sProp 𝕄) = _
  rw [launch_bar]
  refine congrArg (fun R : sProp 𝕄 => iprop(cred (tallyAt (barCell c) () 7) ∗ R)) (bigSep_congr fun k _ => ?_)
  rw [launch_recv]

/-! ## What the launch asks at the ends -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufs
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ bufs zeros
  iintro ⟨Hr, HS, HV, HB⟩
  isplitl [HB]; · iexact HB
  isplitl [HS HV]
  · isplitl [HS]; · iexact HS
    iexact HV
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ## The run -/

/-- The array of window `w` on device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On eight devices, for any float values, from any memory with every counter at zero: the program terminates under every fair
    schedule, each window's array ends at `finalA`, and every counter ends at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array after the run holds what it held. -/
theorem finalA_in (c : Dev nD) (w : Fin cfg0.W) (hw : w ≠ (4 : Fin 5)) :
    finalA m ρ c w = (s₀ m ρ).mem ((cfg0.win w).arr.view.loc (c : Thread nD τ)) :=
  (dats (F := F) m ρ 0 c).arrAt_in w (by fin_cases w <;> first | rfl | exact absurd rfl hw) _

end Cert.Moe

end
-- ==== Proof.Frames.lean ====
/-
The frame claims: the kernel's at both readings of its floats, from the one run, and the reference's.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Moe

open Cert.KernelIdeal Cert.KernelIdeal.Gen
open Idealize.ShloMosaic Idealize.ShloMosaic.TcCoe Idealize.SL.Sem

attribute [local instance] Cert.Kernel.Gen.facts

/-- What a run of the kernel leaves of its arguments and its counters, and where its result is. -/
theorem run_read {F : FTy → Type} [FloatOps F] (m : (ℓ : Loc nD τ sig) → Buf (Elt F) ℓ) (ρ : Dev nD → PrngReg) :
    θ_run defs (onTc (τ := τ) (main (F := F))) (s₀ m ρ) fun r => (∀ c : Dev nD,
      r.2.mem ((c.tc : Thread nD τ).loc main_v1) = finalA m ρ c (4 : Fin 5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => ⟨h.1 c (4 : Fin 5), (h.1 c (0 : Fin 5)).trans (finalA_in m ρ c (0 : Fin 5) (by decide)),
      (h.1 c (1 : Fin 5)).trans (finalA_in m ρ c (1 : Fin 5) (by decide)), (h.1 c (2 : Fin 5)).trans (finalA_in m ρ c (2 : Fin 5) (by decide)),
      (h.1 c (3 : Fin 5)).trans (finalA_in m ρ c (3 : Fin 5) (by decide))⟩, h.2⟩) (run_main m ρ)

/-- The kernel's frame, for any float values. -/
theorem frame_any {F : FTy → Type} [FloatOps F] (m : (ℓ : Loc nD τ sig) → Buf (Elt F) ℓ) (ρ : Dev nD → PrngReg) :
    θ_run defs (onTc (τ := τ) (main (F := F))) (s₀ m ρ) fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h.1 c).2, h.2⟩) (run_read m ρ)

/-- The two printings of the kernel have one body table. -/
theorem bodies_eq : Cert.Kernel.defs₀ (F := Bits) = Cert.KernelIdeal.defs₀ (F := Bits) := by
  refine congrArg Defs.onTc (funext fun l => funext fun a => ?_)
  match l, a with
  | ⟨0, _⟩, (t, s) => rfl
  | ⟨_ + 1, h⟩, _ => exact absurd h (Nat.not_lt.2 (Nat.le_add_left _ _))

theorem defs_eq : Cert.Kernel.defs (F := Bits) = Cert.KernelIdeal.defs (F := Bits) := congrArg (Pipeline.defs Cert.Kernel.pcfgs) bodies_eq

theorem frame_kernel : Cert.quiescent_Kernel := fun m ρ _ => by
  rw [defs_eq]
  exact frame_any (F := Bits) m ρ

theorem frame_ideal : Cert.quiescent_KernelIdeal := fun m ρ _ => frame_any (F := Ideal) m ρ

attribute [local instance] Cert.ReferenceIdeal.Gen.facts in
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe

end
-- ==== Proof.Math.lean ====
/-
One row of the mixture over the extended reals: the gates as they are computed, and the sum over sixteen experts of the row scaled
by its weight for the expert, which is the two chosen experts' sum.
-/
module

public import Idealize.ShloMosaic.PureOps.Ideal
public import Mathlib.Data.EReal.Inv

@[expose] public section

noncomputable section

namespace Cert.Moe

open Idealize.ShloMosaic

/-- Entry `e` of a table of sixteen, zero where the word names no entry. -/
def pick (t : Fin 16 → EReal) (e : BitVec 32) : EReal := if h : e.toNat < 16 then t ⟨e.toNat, h⟩ else 0

/-- One at the entry the word names, zero elsewhere. -/
def ind (i : BitVec 32) (e : ℕ) : EReal := if i.toNat = e then 1 else 0

/-- The weight of expert `e` in a row with choices `i0`, `i1` and gates `a`, `b`. -/
def weight (i0 i1 : BitVec 32) (a b : EReal) (e : ℕ) : EReal := a * ind i0 e + b * ind i1 e

theorem mul_sum_of_nonneg {a : EReal} (h0 : 0 ≤ a) (ht : a ≠ ⊤) {ι : Type} (s : Finset ι) (f : ι → EReal) :
    a * ∑ k ∈ s, f k = ∑ k ∈ s, a * f k := by
  classical
  induction s using Finset.induction_on with
  | empty => rw [Finset.sum_empty, Finset.sum_empty, mul_zero]
  | insert k s hk ih => rw [Finset.sum_insert hk, Finset.sum_insert hk, EReal.left_distrib_of_nonneg_of_ne_top h0 ht, ih]

theorem ind_nonneg (i : BitVec 32) (e : ℕ) : 0 ≤ ind i e := by unfold ind; split; exact zero_le_one; exact le_rfl

theorem mul_ind_ne_top {a : EReal} (ht : a ≠ ⊤) (i : BitVec 32) (e : ℕ) : a * ind i e ≠ ⊤ := by
  unfold ind; split
  · rwa [mul_one]
  · rw [mul_zero]; exact EReal.zero_ne_top

/-- One expert's sum over the scaled row is its weight times its sum over the row, gate by gate. -/
theorem expert_sum {a b : EReal} (ha : 0 ≤ a) (ha' : a ≠ ⊤) (hb : 0 ≤ b) (hb' : b ≠ ⊤) (i0 i1 : BitVec 32) (x w : Fin 128 → EReal) (e : ℕ) :
    ∑ k, weight i0 i1 a b e * x k * w k = a * (ind i0 e * ∑ k, x k * w k) + b * (ind i1 e * ∑ k, x k * w k) := by
  have h0 : 0 ≤ a * ind i0 e := mul_nonneg ha (ind_nonneg i0 e)
  have h1 : 0 ≤ b * ind i1 e := mul_nonneg hb (ind_nonneg i1 e)
  unfold weight
  rw [Finset.sum_congr rfl fun k _ => mul_assoc (a * ind i0 e + b * ind i1 e) (x k) (w k),
    ← mul_sum_of_nonneg (add_nonneg h0 h1) (EReal.add_ne_top (mul_ind_ne_top ha' i0 e) (mul_ind_ne_top hb' i1 e)),
    EReal.right_distrib_of_nonneg h0 h1, mul_assoc, mul_assoc]

theorem sum_ind (i : BitVec 32) (t : Fin 16 → EReal) : ∑ e : Fin 16, ind i e.val * t e = pick t i := by
  unfold pick ind
  split
  · rename_i h
    rw [Finset.sum_eq_single ⟨i.toNat, h⟩ (fun e _ he => by rw [if_neg fun h' => he (Fin.ext h'.symm), zero_mul]) fun h' => absurd (Finset.mem_univ _) h',
      if_pos rfl, one_mul]
  · rename_i h
    exact Finset.sum_eq_zero fun e _ => by
      have he := e.isLt
      rw [if_neg (by omega), zero_mul]

/-- What is known of the two gates: ordinary and not negative, or both choices name no expert. -/
def Gates (i0 i1 : BitVec 32) (a b : EReal) : Prop := (0 ≤ a ∧ a ≠ ⊤ ∧ 0 ≤ b ∧ b ≠ ⊤) ∨ (16 ≤ i0.toNat ∧ 16 ≤ i1.toNat)

/-- The sum over all sixteen experts is the two chosen experts' sum. -/
theorem experts_sum {i0 i1 : BitVec 32} {a b : EReal} (h : Gates i0 i1 a b) (x : Fin 128 → EReal) (w : Fin 16 → Fin 128 → EReal) :
    ∑ e : Fin 16, ∑ k, weight i0 i1 a b e.val * x k * w e k
      = a * (∑ k, x k * pick (fun e => w e k) i0) + b * (∑ k, x k * pick (fun e => w e k) i1) := by
  have hp : ∀ i : BitVec 32, ∑ k, x k * pick (fun e => w e k) i = pick (fun e => ∑ k, x k * w e k) i := fun i => by
    unfold pick
    split
    · rfl
    · exact Finset.sum_eq_zero fun k _ => mul_zero _
  rw [hp, hp]
  rcases h with ⟨ha, ha', hb, hb'⟩ | ⟨h0, h1⟩
  · rw [Finset.sum_congr rfl fun (e : Fin 16) _ => expert_sum ha ha' hb hb' i0 i1 x (w e) e.val, Finset.sum_add_distrib,
      ← mul_sum_of_nonneg ha ha', ← mul_sum_of_nonneg hb hb', sum_ind, sum_ind]
  · have hw : ∀ e : Fin 16, weight i0 i1 a b e.val = 0 := fun e => by
      unfold weight ind
      rw [if_neg (by omega), if_neg (by omega), mul_zero, mul_zero, add_zero]
    unfold pick
    rw [dif_neg (by omega), dif_neg (by omega), mul_zero, mul_zero, add_zero]
    exact Finset.sum_eq_zero fun e _ => Finset.sum_eq_zero fun k _ => by rw [hw, zero_mul, zero_mul]

/-- The sixteen experts are the eight devices' pairs. -/
theorem sum_pairs (T : ℕ → EReal) : ∑ d : Fin 8, (T (2 * d.val) + T (2 * d.val + 1)) = ∑ e : Fin 16, T e.val := by
  rw [Fin.sum_univ_eq_sum_range (fun d => T (2 * d) + T (2 * d + 1)) 8, Fin.sum_univ_eq_sum_range T 16]
  simp only [Finset.sum_range_succ, Finset.sum_range_zero, zero_add, add_assoc, Nat.reduceMul, Nat.reduceAdd]

/-! ## The softmax of a row of ordinary scores -/

theorem sum_real {ι : Type} (s : Finset ι) (f : ι → ℝ) : ∑ k ∈ s, ((f k : ℝ) : EReal) = ((∑ k ∈ s, f k : ℝ) : EReal) := by
  classical
  induction s using Finset.induction_on with
  | empty => simp
  | insert k s hk ih => rw [Finset.sum_insert hk, Finset.sum_insert hk, ih, EReal.coe_add]

/-- The exponentials of a row over their sum. -/
def share (u : Fin 16 → EReal) (e : Fin 16) : EReal := Ideal.div (u e) (∑ e', u e')

theorem div_real (x y : ℝ) (hy : 0 < y) : Ideal.div (x : EReal) (y : EReal) = ((x / y : ℝ) : EReal) := by
  unfold Ideal.div
  rw [if_neg (by exact_mod_cast hy.ne'), ← EReal.coe_inv, ← EReal.coe_mul, div_eq_mul_inv]

/-- With positive real exponentials every share is a positive real. -/
theorem share_pos {u : Fin 16 → EReal} (h : ∀ e, ∃ r : ℝ, 0 < r ∧ u e = r) (e : Fin 16) : ∃ r : ℝ, 0 < r ∧ share u e = r := by
  choose r hr hu using h
  have hs : 0 < ∑ e', r e' := Finset.sum_pos (fun e' _ => hr e') ⟨0, Finset.mem_univ _⟩
  refine ⟨r e / ∑ e', r e', div_pos (hr e) hs, ?_⟩
  unfold share
  rw [Finset.sum_congr rfl fun e' _ => hu e', sum_real, hu, div_real _ _ hs]

theorem pick_real {t : Fin 16 → EReal} (h : ∀ e, ∃ r : ℝ, 0 < r ∧ t e = r) (i : BitVec 32) :
    ∃ r : ℝ, 0 ≤ r ∧ pick t i = r ∧ (i.toNat < 16 → 0 < r) := by
  unfold pick
  split
  · obtain ⟨r, hr, he⟩ := h ⟨i.toNat, by assumption⟩
    exact ⟨r, hr.le, he, fun _ => hr⟩
  · exact ⟨0, le_rfl, EReal.coe_zero.symm, fun h' => absurd h' (by assumption)⟩

/-- The two gates of a row with positive real shares. -/
theorem gates_of {t : Fin 16 → EReal} (h : ∀ e, ∃ r : ℝ, 0 < r ∧ t e = r) (i0 i1 : BitVec 32) :
    Gates i0 i1 (Ideal.div (pick t i0) (pick t i0 + pick t i1)) (Ideal.div (pick t i1) (pick t i0 + pick t i1)) := by
  obtain ⟨r0, h0, e0, p0⟩ := pick_real h i0
  obtain ⟨r1, h1, e1, p1⟩ := pick_real h i1
  rw [e0, e1]
  by_cases hs : 0 < r0 + r1
  · left
    rw [← EReal.coe_add, div_real _ _ hs, div_real _ _ hs]
    exact ⟨by exact_mod_cast div_nonneg h0 hs.le, EReal.coe_ne_top _, by exact_mod_cast div_nonneg h1 hs.le, EReal.coe_ne_top _⟩
  · right
    refine ⟨not_lt.1 fun hlt => hs ?_, not_lt.1 fun hlt => hs ?_⟩
    · exact add_pos_of_pos_of_nonneg (p0 hlt) h1
    · exact add_pos_of_nonneg_of_pos h0 (p1 hlt)

/-- A score of ordinary entries is ordinary. -/
theorem score_real {x w : Fin 128 → EReal} (hx : ∀ k, ∃ r : ℝ, x k = r) (hw : ∀ k, ∃ r : ℝ, w k = r) : ∃ r : ℝ, ∑ k, x k * w k = r := by
  choose a ha using hx
  choose b hb using hw
  exact ⟨∑ k, a k * b k, by rw [← sum_real]; exact Finset.sum_congr rfl fun k _ => by rw [ha, hb, EReal.coe_mul]⟩

/-- The largest of a row of scores; the starting value is minus infinity. -/
def top (s : Fin 16 → EReal) : EReal := Finset.univ.fold max (Ideal.ofBits .f32 0xFF800000#32) s

/-- The softmax of a row of scores. -/
def probs (s : Fin 16 → EReal) : Fin 16 → EReal := share fun e => Ideal.exp (s e - top s)

/-- The scores of a row. -/
def scores (x : Fin 128 → EReal) (w : Fin 16 → Fin 128 → EReal) (e : Fin 16) : EReal := ∑ k, x k * w e k

/-- One entry of the result: the two chosen experts' entries, each by its gate over the sum of both. -/
def mixture (p : Fin 16 → EReal) (i0 i1 : BitVec 32) (x : Fin 128 → EReal) (w : Fin 16 → Fin 128 → EReal) : EReal :=
  Ideal.div (pick p i0) (pick p i0 + pick p i1) * (∑ k, x k * pick (fun e => w e k) i0)
    + Ideal.div (pick p i1) (pick p i0 + pick p i1) * ∑ k, x k * pick (fun e => w e k) i1

theorem bottom_word : Ideal.ofBits .f32 0xFF800000#32 = ⊥ := by
  simp [Ideal.ofBits, Ideal.ieee]

/-- The maximum of a row of ordinary scores is ordinary. -/
theorem top_real {s : Fin 16 → EReal} (h : ∀ e, ∃ r : ℝ, s e = r) : ∃ r : ℝ, top s = r := by
  have hm : top s = Finset.univ.sup s := by unfold top; rw [bottom_word]; rfl
  obtain ⟨e, -, he⟩ := Finset.exists_mem_eq_sup Finset.univ ⟨0, Finset.mem_univ _⟩ s
  obtain ⟨r, hr⟩ := h e
  exact ⟨r, by rw [hm, he, hr]⟩

/-- The softmax of ordinary scores is positive and ordinary. -/
theorem probs_pos {s : Fin 16 → EReal} (h : ∀ e, ∃ r : ℝ, s e = r) (e : Fin 16) : ∃ r : ℝ, 0 < r ∧ probs s e = r := by
  refine share_pos (fun e => ?_) e
  obtain ⟨a, ha⟩ := h e
  obtain ⟨b, hb⟩ := top_real h
  exact ⟨Real.exp (a - b), Real.exp_pos _, by rw [ha, hb, ← EReal.coe_sub]; rfl⟩

end Cert.Moe

end
-- ==== Proof.KernelValue.lean ====
/-
The kernel's result at an entry, over the extended reals: the mixture of its row, from the device's tokens and choices and
all the devices' matrices.
-/
module

public import proofs.«01_k».proof.Proof.Run
public import proofs.«01_k».proof.Proof.Math
public import Idealize.ShloMosaic.Lib.Pointwise
public import Idealize.ShloMosaic.Lib.WordCmp

@[expose] public section

noncomputable section

namespace Cert.Moe

open Cert.KernelIdeal Cert.KernelIdeal.Gen
open Idealize.ShloMosaic Idealize.ShloMosaic.TcCoe

set_option maxRecDepth 16384

/-- A comparison's bit, widened and converted, is the indicator. -/
theorem bit_value (i e : BitVec 32) :
    (FloatOps.sitofp .f32 (BitVec.setWidth 32 (IntOp.cmpi CmpIPredicate.eq i e)) : Ideal .f32) = ind i e.toNat := by
  unfold ind
  rw [WordCmp.cmpi_eq_eq_toNat]
  split
  · rename_i h
    rw [h, decide_eq_true rfl]
    show ((((BitVec.setWidth 32 1#1).toInt : ℤ) : ℝ) : EReal) = 1
    rw [show (BitVec.setWidth 32 1#1).toInt = 1 from by decide]
    norm_num
  · rename_i h
    rw [decide_eq_false h]
    show ((((BitVec.setWidth 32 0#1).toInt : ℤ) : ℝ) : EReal) = 0
    rw [show (BitVec.setWidth 32 0#1).toInt = 0 from by decide]
    norm_num

theorem coef_apply (i0 i1 : IVec S256x1 32) (g0 g1 : FVec Ideal S256x1 .f32) (e : BitVec 32) (r : Fin 256) :
    coef i0 i1 g0 g1 e (ix2 r 0) = weight (i0 (ix2 r 0)) (i1 (ix2 r 0)) (g0 (ix2 r 0)) (g1 (ix2 r 0)) e.toNat := by
  unfold coef weight
  pointwise
  rw [bit_value, bit_value]

/-- The share of one device's pair of experts. -/
theorem chunk_apply (x : FVec Ideal S256x128 .f32) (i0 i1 : IVec S256x1 32) (g0 g1 : FVec Ideal S256x1 .f32) (acc : FVec Ideal S256x256 .f32)
    (o : BitVec 32) (n : ℕ) (ho : (Scalar.muli 2#32 o).toNat = 2 * n) (ho' : (Scalar.addi (Scalar.muli 2#32 o) 1#32).toNat = 2 * n + 1)
    (w : FVec Ideal S2x128x256 .bf16) (r h : Fin 256) :
    chunk x i0 i1 g0 g1 acc o w (ix2 r h) = acc (ix2 r h)
      + ((∑ k : Fin 128, weight (i0 (ix2 r 0)) (i1 (ix2 r 0)) (g0 (ix2 r 0)) (g1 (ix2 r 0)) (2 * n) * x (ix2 r k) * w (ix3 0 k h))
        + ∑ k : Fin 128, weight (i0 (ix2 r 0)) (i1 (ix2 r 0)) (g0 (ix2 r 0)) (g1 (ix2 r 0)) (2 * n + 1) * x (ix2 r k) * w (ix3 1 k h)) := by
  unfold chunk scaled
  pointwise
  rw [coef_apply, coef_apply, ho, ho']
  refine congrArg (acc (ix2 r h) + ·) (congrArg₂ (· + ·) (Finset.sum_congr rfl fun k _ => congrArg (_ * ·) (congrArg w ?_))
    (Finset.sum_congr rfl fun k _ => congrArg (_ * ·) (congrArg w ?_)))
  · have h1 : (⟨k.val / 128, by omega⟩ : Fin 2) = 0 := Fin.ext (by show k.val / 128 = 0; omega)
    have h2 : (⟨k.val % 128, by omega⟩ : Fin 128) = k := Fin.ext (by show k.val % 128 = k.val; omega)
    rw [h1, h2]
  · have h1 : (⟨(128 + k.val) / 128, by omega⟩ : Fin 2) = 1 := Fin.ext (by show (128 + k.val) / 128 = 1; omega)
    have h2 : (⟨(128 + k.val) % 128, by omega⟩ : Fin 128) = k := Fin.ext (by show (128 + k.val) % 128 = k.val; omega)
    rw [h1, h2]

/-- The softmax of the row's scores. -/
theorem probs_apply (x : Vec Ideal S256x128 .f32) (w : Vec Ideal S128x16 .f32) (r : Fin 256) (e : Fin 16) :
    k0_pay3 x w (ix2 r e) = probs (scores (fun k => x (ix2 r k)) fun e k => w (ix2 k e)) e := by
  pointwise [k0_pay3, k0_pay2]
  rfl

theorem select_eq_pick (p : Fin 16 → EReal) (i : BitVec 32) :
    ∑ e : Fin 16, Scalar.select (IntOp.cmpi CmpIPredicate.eq (BitVec.ofNat 32 e.val) i) (p e) 0 = pick p i := by
  rw [← sum_ind]
  refine Finset.sum_congr rfl fun e _ => ?_
  have he : (BitVec.ofNat 32 e.val).toNat = e.val := by
    rw [BitVec.toNat_ofNat]; exact Nat.mod_eq_of_lt (lt_trans e.isLt (by decide))
  unfold ind
  rw [WordCmp.cmpi_eq_eq_toNat, he]
  by_cases h : e.val = i.toNat
  · rw [decide_eq_true h, if_pos h.symm, one_mul]; rfl
  · rw [decide_eq_false h, if_neg (Ne.symm h), zero_mul]; rfl

theorem gate0_apply (x : Vec Ideal S256x128 .f32) (w : Vec Ideal S128x16 .f32) (i : Vec Ideal S256x1 .i32) (r : Fin 256) :
    k0_pay6 x w i (ix2 r 0) = pick (probs (scores (fun k => x (ix2 r k)) fun e k => w (ix2 k e))) (i (ix2 r 0)) := by
  pointwise [k0_pay6, k0_pay4]
  rw [select_eq_pick]
  exact congrArg (fun p => pick p (i (ix2 r 0))) (funext fun e => probs_apply x w r e)

theorem gate1_apply (x : Vec Ideal S256x128 .f32) (w : Vec Ideal S128x16 .f32) (i : Vec Ideal S256x1 .i32) (r : Fin 256) :
    k0_pay7 x w i (ix2 r 0) = pick (probs (scores (fun k => x (ix2 r k)) fun e k => w (ix2 k e))) (i (ix2 r 0)) := by
  pointwise [k0_pay7, k0_pay5]
  rw [select_eq_pick]
  exact congrArg (fun p => pick p (i (ix2 r 0))) (funext fun e => probs_apply x w r e)

/-! ## The staged blocks are the arguments' arrays -/

variable (m : (ℓ : Loc nD τ sig) → Buf (Elt Ideal) ℓ) (ρ : Dev nD → PrngReg)

theorem xstg_eq (c : Dev nD) : xstg m ρ c = m ((c : Thread nD τ).loc main_arg0) :=
  Memref.read_access_unit_zero (Elt Ideal) main_arg0 (funext fun a => by fin_cases a <;> decide) (fun a => by fin_cases a <;> decide) _
theorem rstg_eq (c : Dev nD) : rstg m ρ c = m ((c : Thread nD τ).loc main_arg1) :=
  Memref.read_access_unit_zero (Elt Ideal) main_arg1 (funext fun a => by fin_cases a <;> decide) (fun a => by fin_cases a <;> decide) _
theorem istg_eq (c : Dev nD) : istg m ρ c = m ((c : Thread nD τ).loc main_arg2) :=
  Memref.read_access_unit_zero (Elt Ideal) main_arg2 (funext fun a => by fin_cases a <;> decide) (fun a => by fin_cases a <;> decide) _
theorem wstg_eq (c : Dev nD) : wstg m ρ c = m ((c : Thread nD τ).loc main_arg3) :=
  Memref.read_access_unit_zero (Elt Ideal) main_arg3 (funext fun a => by fin_cases a <;> decide) (fun a => by fin_cases a <;> decide) _

/-- The result's array is what the device stores. -/
theorem finalA_out (c : Dev nD) : finalA m ρ c (4 : Fin 5) = outAt m ρ c := by
  have hr := fun f => Memref.read_access_unit_zero (Elt Ideal) main_v1 (off := fun a => (win0_4.index (0 : Fin 1)) a * main_v1.ty.shape.size a)
    (funext fun a => by fin_cases a <;> decide) (fun a => by fin_cases a <;> decide) f
  refine (hr _).symm.trans ?_
  unfold finalA
  rw [show cfg0.N = ((0 : Fin 1) : Fin cfg0.N).val + 1 from rfl, (dats m ρ 0 c).arrAt_succ (4 : Fin 5) (0 : Fin 1),
    show (cfg0.win (4 : Fin 5)).flush (0 : Fin 1) = true from by decide, if_pos rfl]
  exact View.read_write_univ _ _

theorem icol0_apply (c : Dev nD) (r : Fin 256) : icol0 m ρ c (ix2 r 0) = istg m ρ c (ix2 r 0) := by
  unfold icol0
  show istg m ρ c _ = _
  exact congrArg (istg m ρ c) (funext fun a => Fin.ext (by
    fin_cases a
    · show 0 + 1 * r.val = r.val
      omega
    · show 0 + 1 * 0 = 0
      rfl))
theorem icol1_apply (c : Dev nD) (r : Fin 256) : icol1 m ρ c (ix2 r 0) = istg m ρ c (ix2 r 1) := by
  unfold icol1
  show istg m ρ c _ = _
  exact congrArg (istg m ρ c) (funext fun a => Fin.ext (by
    fin_cases a
    · show 0 + 1 * r.val = r.val
      omega
    · show 1 + 1 * 0 = 1
      rfl))

theorem stage_apply (c : Dev nD) (a : Fin 2) (k : Fin 128) (h : Fin 256) : stageV m ρ c (ix3 a k h) = wstg m ρ c (ix3 a k h) := by
  unfold stageV
  pointwise [k0_pay1]

theorem slab_apply (c : Dev nD) (a : Fin 2) (k : Fin 128) (h : Fin 256) :
    (shapeCast S2x128x256 (slab (stageV m ρ c)) shapeCasts_S1x2x128x256_S2x128x256 : FVec Ideal S2x128x256 .bf16) (ix3 a k h) = wstg m ρ c (ix3 a k h) := by
  unfold slab
  pointwise
  exact stage_apply m ρ c a k h

/-! ## The words of the device numbers -/

theorem own_words : ∀ c : Dev nD, (Scalar.muli 2#32 (ownW c)).toNat = 2 * c.val ∧ (Scalar.addi (Scalar.muli 2#32 (ownW c)) 1#32).toNat = 2 * c.val + 1 := by
  decide
theorem peer_words : ∀ (c : Dev nD) (j : Fin 7), (Scalar.muli 2#32 (peerW c j)).toNat = 2 * (off c j).val
    ∧ (Scalar.addi (Scalar.muli 2#32 (peerW c j)) 1#32).toNat = 2 * (off c j).val + 1 := by
  decide

/-- A device and its seven peers, in order, are all the devices. -/
theorem all_devices : ∀ c : Dev nD, (c :: ([0, 1, 2, 3, 4, 5, 6] : List (Fin 7)).map (off c)).Perm (List.finRange 8) := by
  decide

/-! ## The fold over the devices -/

theorem fold_apply {ι α : Type} (f : (ι → EReal) → α → ι → EReal) (g : α → EReal) (i : ι) (h : ∀ acc j, f acc j i = acc i + g j) :
    ∀ (l : List α) (acc : ι → EReal), (l.foldl f acc) i = acc i + (l.map g).sum
  | [], acc => (add_zero _).symm
  | j :: l, acc => by rw [List.foldl_cons, fold_apply f g i h l, h, List.map_cons, List.sum_cons, add_assoc]

/-- The entries of the matrices of all sixteen experts, in column `h`. -/
def table (h : Fin 256) (n : ℕ) (k : Fin 128) : EReal :=
  m (((⟨n / 2 % 8, Nat.mod_lt _ (by decide)⟩ : Dev nD) : Thread nD τ).loc main_arg3) (ix3 (⟨n % 2, Nat.mod_lt _ (by decide)⟩ : Fin 2) k h)

theorem table_even (d : Dev nD) (h : Fin 256) (k : Fin 128) : table m h (2 * d.val) k = m ((d : Thread nD τ).loc main_arg3) (ix3 (0 : Fin 2) k h) := by
  have hd := d.isLt
  unfold table
  have h1 : (⟨2 * d.val / 2 % 8, Nat.mod_lt _ (by decide)⟩ : Dev nD) = d := Fin.ext (by show 2 * d.val / 2 % 8 = d.val; have : d.val < 8 := d.isLt; omega)
  have h2 : (⟨2 * d.val % 2, Nat.mod_lt _ (by decide)⟩ : Fin 2) = 0 := Fin.ext (by show 2 * d.val % 2 = 0; omega)
  rw [h1, h2]
theorem table_odd (d : Dev nD) (h : Fin 256) (k : Fin 128) : table m h (2 * d.val + 1) k = m ((d : Thread nD τ).loc main_arg3) (ix3 (1 : Fin 2) k h) := by
  unfold table
  have h1 : (⟨(2 * d.val + 1) / 2 % 8, Nat.mod_lt _ (by decide)⟩ : Dev nD) = d := Fin.ext (by show (2 * d.val + 1) / 2 % 8 = d.val; have : d.val < 8 := d.isLt; omega)
  have h2 : (⟨(2 * d.val + 1) % 2, Nat.mod_lt _ (by decide)⟩ : Fin 2) = 1 := Fin.ext (by show (2 * d.val + 1) % 2 = 1; omega)
  rw [h1, h2]

/-- The row's softmax on device `c`. -/
def rowProbs (c : Dev nD) (r : Fin 256) : Fin 16 → EReal :=
  probs (scores (fun k => m ((c : Thread nD τ).loc main_arg0) (ix2 r k)) fun e k => m ((c : Thread nD τ).loc main_arg1) (ix2 k e))

/-- The row's choices and normalised gates on device `c`. -/
def choice (c : Dev nD) (r : Fin 256) (n : Fin 2) : BitVec 32 := m ((c : Thread nD τ).loc main_arg2) (ix2 r n)
def gate (c : Dev nD) (r : Fin 256) (n : Fin 2) : EReal :=
  Ideal.div (pick (rowProbs m c r) (choice m c r n)) (pick (rowProbs m c r) (choice m c r 0) + pick (rowProbs m c r) (choice m c r 1))

/-- Expert `n`'s part of entry `(r, h)` of device `c`'s result. -/
def part (c : Dev nD) (r h : Fin 256) (n : ℕ) : EReal :=
  ∑ k, weight (choice m c r 0) (choice m c r 1) (gate m c r 0) (gate m c r 1) n * m ((c : Thread nD τ).loc main_arg0) (ix2 r k) * table m h n k

theorem icols (c : Dev nD) (r : Fin 256) : k0_pay4 (icol0 m ρ c) (ix2 r 0) = choice m c r 0 ∧ k0_pay5 (icol1 m ρ c) (ix2 r 0) = choice m c r 1 := by
  constructor
  · pointwise [k0_pay4]
    rw [icol0_apply, istg_eq]; rfl
  · pointwise [k0_pay5]
    rw [icol1_apply, istg_eq]; rfl

theorem gates_read (c : Dev nD) (r : Fin 256) :
    k0_pay9 (xstg m ρ c) (rstg m ρ c) (icol0 m ρ c) (icol1 m ρ c) (ix2 r 0) = gate m c r 0
      ∧ k0_pay10 (xstg m ρ c) (rstg m ρ c) (icol0 m ρ c) (icol1 m ρ c) (ix2 r 0) = gate m c r 1 := by
  have h0 := gate0_apply (xstg m ρ c) (rstg m ρ c) (icol0 m ρ c) r
  have h1 := gate1_apply (xstg m ρ c) (rstg m ρ c) (icol1 m ρ c) r
  rw [icol0_apply, istg_eq, xstg_eq, rstg_eq] at h0
  rw [icol1_apply, istg_eq, xstg_eq, rstg_eq] at h1
  rw [xstg_eq, rstg_eq]
  constructor
  · pointwise [k0_pay9, k0_pay8]
    rw [h0, h1]; rfl
  · pointwise [k0_pay10, k0_pay8]
    rw [h0, h1]; rfl

/-- One step of the sum: the pair of device `d`. -/
theorem chunkAt_apply (c d : Dev nD) (acc : FVec Ideal S256x256 .f32) (o : BitVec 32) (w : FVec Ideal S2x128x256 .bf16)
    (ho : (Scalar.muli 2#32 o).toNat = 2 * d.val ∧ (Scalar.addi (Scalar.muli 2#32 o) 1#32).toNat = 2 * d.val + 1)
    (hw : ∀ a k h, w (ix3 a k h) = wstg m ρ d (ix3 a k h)) (r h : Fin 256) :
    chunkAt m ρ c acc o w (ix2 r h) = acc (ix2 r h) + (part m c r h (2 * d.val) + part m c r h (2 * d.val + 1)) := by
  unfold chunkAt part
  rw [chunk_apply _ _ _ _ _ _ o d.val ho.1 ho.2, (icols m ρ c r).1, (icols m ρ c r).2, (gates_read m ρ c r).1, (gates_read m ρ c r).2]
  refine congrArg (acc (ix2 r h) + ·) (congrArg₂ (· + ·) (Finset.sum_congr rfl fun k _ => ?_) (Finset.sum_congr rfl fun k _ => ?_))
  · rw [hw, wstg_eq, table_even]
    pointwise [k0_pay2]
    rw [xstg_eq]
  · rw [hw, wstg_eq, table_odd]
    pointwise [k0_pay2]
    rw [xstg_eq]

/-- Entry `(r, h)` of what device `c` stores: the sum over the sixteen experts. -/
theorem out_sum (c : Dev nD) (r h : Fin 256) : outAt m ρ c (ix2 r h) = ∑ e : Fin 16, part m c r h e.val := by
  unfold outAt
  refine (fold_apply (fun acc (j : Fin 7) => chunkAt m ρ c acc (peerW c j) (shapeCast S2x128x256 (slab (stageV m ρ (off c j))) shapeCasts_S1x2x128x256_S2x128x256))
      (fun j => part m c r h (2 * (off c j).val) + part m c r h (2 * (off c j).val + 1)) (ix2 r h)
      (fun acc j => chunkAt_apply m ρ c (off c j) acc _ _ (peer_words c j) (slab_apply m ρ (off c j)) r h) _ _).trans ?_
  rw [chunkAt_apply m ρ c c _ _ _ (own_words c) (stage_apply m ρ c) r h, ← sum_pairs]
  have h0 : (k0_pay11 : FVec Ideal S256x256 .f32) (ix2 r h) = 0 := by pointwise [k0_pay11]
  rw [h0, zero_add]
  have hl := ((all_devices c).map fun d : Dev nD => part m c r h (2 * d.val) + part m c r h (2 * d.val + 1)).sum_eq
  rw [List.map_cons, List.sum_cons, List.map_map] at hl
  exact hl.trans (Fin.sum_univ_def _).symm

/-- Entry `(r, h)` of what device `c` stores, where the gates are ordinary: the row's mixture. -/
theorem out_apply (c : Dev nD) (r h : Fin 256) (hp : ∀ e, ∃ v : ℝ, 0 < v ∧ rowProbs m c r e = v) :
    outAt m ρ c (ix2 r h) = mixture (rowProbs m c r) (choice m c r 0) (choice m c r 1) (fun k => m ((c : Thread nD τ).loc main_arg0) (ix2 r k))
      fun e k => table m h e.val k := by
  rw [out_sum]
  exact experts_sum (gates_of hp _ _) (fun k => m ((c : Thread nD τ).loc main_arg0) (ix2 r k)) fun e k => table m h e.val k

end Cert.Moe

end
-- ==== Proof.ReferenceValue.lean ====
/-
The reference's result at an entry, over the extended reals: the mixture of its row.
-/
module

public import proofs.«01_k».proof.Proof.Gen.ReferenceIdeal.Run
public import proofs.«01_k».proof.Proof.Math
public import Idealize.ShloMosaic.Lib.Pointwise
public import Idealize.ShloMosaic.Lib.WordCmp
public import Idealize.ShloMosaic.Lib.Tactic.CleanTypes

@[expose] public section

noncomputable section

namespace Cert.Moe.Reference

open Cert.ReferenceIdeal Cert.ReferenceIdeal.Gen Cert.ReferenceIdeal.Value
open Idealize.ShloMosaic Idealize.ShloMosaic.TcCoe

set_option maxRecDepth 16384

/-! ## The reference's steps -/

/-- The softmax of every row's scores. -/
def probsT (x : FVec Ideal S2048x128 .f32) (w : FVec Ideal S128x16 .f32) : FVec Ideal S2048x16 .f32 :=
  Host.divf (Host.exp (subf (Host.dotGeneral dot_S2048x128_S128x16_S2048x16_1_0_0_1_n_n none x w) (broadcastInDim S2048x16 ![0, 1] bcast_S2048x1_S2048x16_0_1 (broadcastInDim S2048x1 ![0] bcast_S2048_S2048x1_0 (Host.reduce FloatOps.maximumf (Host.dotGeneral dot_S2048x128_S128x16_S2048x16_1_0_0_1_n_n none x w) (constant S_ .f32 0xFF800000#32) reducesTo_S2048x16_S2048_d1 h_S_))))) (broadcastInDim S2048x16 ![0, 1] bcast_S2048x1_S2048x16_0_1 (broadcastInDim S2048x1 ![0] bcast_S2048_S2048x1_0 (Host.reduceAdd (Host.exp (subf (Host.dotGeneral dot_S2048x128_S128x16_S2048x16_1_0_0_1_n_n none x w) (broadcastInDim S2048x16 ![0, 1] bcast_S2048x1_S2048x16_0_1 (broadcastInDim S2048x1 ![0] bcast_S2048_S2048x1_0 (Host.reduce FloatOps.maximumf (Host.dotGeneral dot_S2048x128_S128x16_S2048x16_1_0_0_1_n_n none x w) (constant S_ .f32 0xFF800000#32) reducesTo_S2048x16_S2048_d1 h_S_))))) (constant S_ .f32 0x00000000#32) reducesTo_S2048x16_S2048_d1 h_S_)))

/-- Each row's number beside its choice. -/
def pairs (e : IVec S2048 32) : IVec S2048x2 32 :=
  concatenate S2048x2 1 [⟨S2048x1, (broadcastInDim S2048x1 ![0] bcast_S2048_S2048x1_0 (iotaInDim S2048 32 0))⟩, ⟨S2048x1, (broadcastInDim S2048x1 ![0] bcast_S2048_S2048x1_0 e)⟩] concatenates_S2048x1_S2048x1_S2048x2_d1

/-- Each row's gate: its probability of the chosen expert, zero where the choice names none. -/
def gatesT (l : Fin 2 → BitVec 32) (p : FVec Ideal S2048x16 .f32) (e : IVec S2048 32) : FVec Ideal S2048 .f32 :=
  select (Host.reduce IntOp.andi (andi (cmpi .sge (pairs e) (broadcastInDim S2048x2 ![] bcast_S_S2048x2 (constantI S_ 32 0#32))) (cmpi .sle (pairs e) (broadcastInDim S2048x2 ![0, 1] bcast_S1x2_S2048x2_0_1 (broadcastInDim S1x2 ![1] bcast_S2_S1x2_1 ((fun i => l (S2.rowMajor i))))))) (constantI S_ 1 1#1) reducesTo_S2048x2_S2048_d1 h_S_) (Host.gather gather_S2048x16_S2048x2_S2048_n_01_n_n_01_1_11 p (pairs e)) (broadcastInDim S2048 ![] bcast_S_S2048 (constant S_ .f32 0x00000000#32))

/-- Each row's matrix: the chosen expert's, zero where the choice names none. -/
def matsT (t : FVec Ideal S16x128x256 .f32) (e : IVec S2048 32) : FVec Ideal S2048x128x256 .f32 :=
  select (broadcastInDim S2048x128x256 ![0] bcast_S2048_S2048x128x256_0 (Host.reduce IntOp.andi (andi (cmpi .sge (broadcastInDim S2048x1 ![0] bcast_S2048_S2048x1_0 e) (broadcastInDim S2048x1 ![] bcast_S_S2048x1 (constantI S_ 32 0#32))) (cmpi .sle (broadcastInDim S2048x1 ![0] bcast_S2048_S2048x1_0 e) (broadcastInDim S2048x1 ![0, 1] bcast_S1x1_S2048x1_0_1 (broadcastInDim S1x1 ![1] bcast_S1_S1x1_1 (constantI S1 32 15#32))))) (constantI S_ 1 1#1) reducesTo_S2048x1_S2048_d1 h_S_)) (Host.gather gather_S16x128x256_S2048x1_S2048x128x256_12_0_n_n_0_1_1128256 t (broadcastInDim S2048x1 ![0] bcast_S2048_S2048x1_0 e)) (broadcastInDim S2048x128x256 ![] bcast_S_S2048x128x256 (constant S_ .f32 0x00000000#32))

/-- The result from the gates and the matrices. -/
def mixT (x : FVec Ideal S2048x128 .f32) (g0 g1 : FVec Ideal S2048 .f32) (w0 w1 : FVec Ideal S2048x128x256 .f32) : FVec Ideal S2048x256 .f32 :=
  addf (mulf (broadcastInDim S2048x256 ![0, 1] bcast_S2048x1_S2048x256_0_1 (broadcastInDim S2048x1 ![0] bcast_S2048_S2048x1_0 (Host.divf g0 (addf g0 g1)))) (Host.dotGeneral dot_S2048x128_S2048x128x256_S2048x256_1_1_n_2_0_0 none x w0))
    (mulf (broadcastInDim S2048x256 ![0, 1] bcast_S2048x1_S2048x256_0_1 (broadcastInDim S2048x1 ![0] bcast_S2048_S2048x1_0 (Host.divf g1 (addf g0 g1)))) (Host.dotGeneral dot_S2048x128_S2048x128x256_S2048x256_1_1_n_2_0_0 none x w1))

/-- A column of the choices. -/
def col0 (i : IVec S2048x2 32) : IVec S2048 32 := shapeCast S2048 (extractStridedSlice S2048x1 ![0, 0] i slices_S2048x2_S2048x1_0_0) shapeCasts_S2048x1_S2048
def col1 (i : IVec S2048x2 32) : IVec S2048 32 := shapeCast S2048 (extractStridedSlice S2048x1 ![0, 1] i slices_S2048x2_S2048x1_0_1) shapeCasts_S2048x1_S2048

/-! ## Reading the two gathers -/

theorem gather_pair_apply (p : FVec Ideal S2048x16 .f32) (i : IVec S2048x2 32) (r : Fin 2048) :
    Host.gather gather_S2048x16_S2048x2_S2048_n_01_n_n_01_1_11 p i (ix1 r)
      = p (ix2 ⟨min (i (ix2 r 0)).toInt.toNat 2047, by omega⟩ ⟨min (i (ix2 r 1)).toInt.toNat 15, by omega⟩) := by
  unfold Host.gather
  refine congrArg p (funext fun a => Fin.ext ?_)
  match a with
  | ⟨0, _⟩ =>
    show min (i _).toInt.toNat 2047 + 0 + 0 = min (i _).toInt.toNat 2047
    exact congrArg (fun j => min (i j).toInt.toNat 2047) (funext fun b => Fin.ext (by match b with | ⟨0, _⟩ => rfl | ⟨1, _⟩ => rfl))
  | ⟨1, _⟩ =>
    show min (i _).toInt.toNat 15 + 0 + 0 = min (i _).toInt.toNat 15
    exact congrArg (fun j => min (i j).toInt.toNat 15) (funext fun b => Fin.ext (by match b with | ⟨0, _⟩ => rfl | ⟨1, _⟩ => rfl))

theorem gather_slab_apply (t : FVec Ideal S16x128x256 .f32) (i : IVec S2048x1 32) (r : Fin 2048) (k : Fin 128) (h : Fin 256) :
    Host.gather gather_S16x128x256_S2048x1_S2048x128x256_12_0_n_n_0_1_1128256 t i (ix3 r k h)
      = t (ix3 ⟨min (i (ix2 r 0)).toInt.toNat 15, by omega⟩ k h) := by
  unfold Host.gather
  refine congrArg t (funext fun a => Fin.ext ?_)
  match a with
  | ⟨0, _⟩ =>
    show min (i _).toInt.toNat 15 + 0 + 0 = min (i _).toInt.toNat 15
    exact congrArg (fun j => min (i j).toInt.toNat 15) (funext fun b => Fin.ext (by match b with | ⟨0, _⟩ => rfl | ⟨1, _⟩ => rfl))
  | ⟨1, _⟩ =>
    show 0 + 0 + k.val = k.val
    omega
  | ⟨2, _⟩ =>
    show 0 + 0 + h.val = h.val
    omega

/-! ## The range tests -/

/-- The two comparisons of a word with 0 and 15 ask that it name an expert. -/
theorem in_range (e : BitVec 32) : IntOp.andi (IntOp.cmpi CmpIPredicate.sge e 0#32) (IntOp.cmpi CmpIPredicate.sle e 15#32)
    = BitVec.ofBool (decide (e.toNat < 16)) := by
  rw [WordCmp.cmpi_sge_eq, WordCmp.cmpi_sle_eq, WordCmp.andi_ofBool]
  congr 1
  have h0 : (0#32 : BitVec 32).toInt = 0 := by decide
  have h15 : (15#32 : BitVec 32).toInt = 15 := by decide
  rw [h0, h15, ← Bool.decide_and]
  refine decide_eq_decide.mpr ?_
  rw [BitVec.toInt_eq_toNat_cond]
  have := e.isLt
  split <;> omega

/-- A row's number passes its own test. -/
theorem row_in_range (r : Fin 2048) : IntOp.andi (IntOp.cmpi CmpIPredicate.sge (BitVec.ofNat 32 r.val) 0#32)
    (IntOp.cmpi CmpIPredicate.sle (BitVec.ofNat 32 r.val) 2047#32) = 1#1 := by
  have hr := r.isLt
  have h0 : (0#32 : BitVec 32).toInt = 0 := by decide
  have h1 : (2047#32 : BitVec 32).toInt = 2047 := by decide
  have h2 : (BitVec.ofNat 32 r.val).toNat = r.val := by rw [BitVec.toNat_ofNat]; exact Nat.mod_eq_of_lt (by omega)
  have h3 : (BitVec.ofNat 32 r.val).toInt = r.val := by rw [BitVec.toInt_eq_toNat_cond, h2]; split <;> omega
  rw [WordCmp.cmpi_sge_eq, WordCmp.cmpi_sle_eq, WordCmp.andi_ofBool, h0, h1, h3, decide_eq_true (by omega), decide_eq_true (by omega)]
  rfl

/-- A read guarded by the test, at the clamped index, is the entry the word names. -/
theorem guarded_pick (t : Fin 16 → EReal) (e : BitVec 32) :
    Scalar.select (BitVec.ofBool (decide (e.toNat < 16))) (t ⟨min e.toInt.toNat 15, by omega⟩) 0 = pick t e := by
  unfold pick
  split
  · rename_i h
    have h1 : e.toInt = e.toNat := by rw [BitVec.toInt_eq_toNat_cond]; split <;> omega
    rw [decide_eq_true h]
    refine (show Scalar.select (BitVec.ofBool true) _ _ = t _ from rfl).trans (congrArg t (Fin.ext ?_))
    show min e.toInt.toNat 15 = e.toNat
    rw [h1]
    omega
  · rename_i h
    rw [decide_eq_false h]
    rfl

/-! ## The steps at an entry -/

theorem probsT_apply (x : FVec Ideal S2048x128 .f32) (w : FVec Ideal S128x16 .f32) (r : Fin 2048) (e : Fin 16) :
    probsT x w (ix2 r e) = probs (scores (fun k => x (ix2 r k)) fun e k => w (ix2 k e)) e := by
  pointwise [probsT]
  rfl

theorem pairs_apply (e : IVec S2048 32) (r : Fin 2048) : pairs e (ix2 r 0) = BitVec.ofNat 32 r.val ∧ pairs e (ix2 r 1) = e (ix1 r) := by
  constructor
  · pointwise [pairs]
  · pointwise [pairs]

theorem fold_two (f : Fin 2 → BitVec 1) : Finset.univ.fold IntOp.andi 1#1 f = IntOp.andi (f 0) (IntOp.andi (f 1) 1#1) := rfl
theorem fold_one (f : Fin 1 → BitVec 1) : Finset.univ.fold IntOp.andi 1#1 f = IntOp.andi (f 0) 1#1 := rfl

theorem gatesT_apply (l : Fin 2 → BitVec 32) (h0 : l 0 = 2047#32) (h1 : l 1 = 15#32) (p : FVec Ideal S2048x16 .f32) (e : IVec S2048 32) (r : Fin 2048) :
    gatesT l p e (ix1 r) = pick (fun e => p (ix2 r e)) (e (ix1 r)) := by
  unfold gatesT
  pointwise
  have hl0 : l (S2.rowMajor (ix1 (0 : Fin 2))) = 2047#32 := (congrArg l (Fin.ext (by decide))).trans h0
  have hl1 : l (S2.rowMajor (ix1 (1 : Fin 2))) = 15#32 := (congrArg l (Fin.ext (by decide))).trans h1
  have one_andi : ∀ b : BitVec 1, IntOp.andi 1#1 (IntOp.andi b 1#1) = b := by decide
  rw [fold_two, hl0, hl1, (pairs_apply e r).1, (pairs_apply e r).2, row_in_range, one_andi, in_range, gather_pair_apply]
  rw [← guarded_pick]
  refine congrArg (fun z => Scalar.select _ z 0) (congrArg p (funext fun a => Fin.ext ?_))
  match a with
  | ⟨0, _⟩ =>
    show min (pairs e (ix2 r 0)).toInt.toNat 2047 = r.val
    have hr := r.isLt
    have h2 : (BitVec.ofNat 32 r.val).toNat = r.val := by rw [BitVec.toNat_ofNat]; exact Nat.mod_eq_of_lt (by omega)
    have h3 : (BitVec.ofNat 32 r.val).toInt = r.val := by rw [BitVec.toInt_eq_toNat_cond, h2]; split <;> omega
    rw [(pairs_apply e r).1, h3]
    omega
  | ⟨1, _⟩ =>
    show min (pairs e (ix2 r 1)).toInt.toNat 15 = min (e (ix1 r)).toInt.toNat 15
    rw [(pairs_apply e r).2]

theorem matsT_apply (t : FVec Ideal S16x128x256 .f32) (e : IVec S2048 32) (r : Fin 2048) (k : Fin 128) (h : Fin 256) :
    matsT t e (ix3 r k h) = pick (fun e => t (ix3 e k h)) (e (ix1 r)) := by
  unfold matsT
  pointwise
  have andi_one : ∀ b : BitVec 1, IntOp.andi b 1#1 = b := by decide
  have hb : broadcastInDim S2048x1 ![0] bcast_S2048_S2048x1_0 e (ix2 r 0) = e (ix1 r) := by pointwise
  rw [fold_one, andi_one, in_range, gather_slab_apply, ← guarded_pick]
  exact congrArg (fun z => Scalar.select (BitVec.ofBool (decide ((e (ix1 r)).toNat < 16))) z 0)
    (congrArg (fun j : Fin 16 => t (ix3 j k h)) (Fin.ext (congrArg (fun b : BitVec 32 => min b.toInt.toNat 15) hb)))

theorem cols_apply (i : IVec S2048x2 32) (r : Fin 2048) : col0 i (ix1 r) = i (ix2 r 0) ∧ col1 i (ix1 r) = i (ix2 r 1) := by
  constructor
  · pointwise [col0]
  · pointwise [col1]

theorem mixT_apply (x : FVec Ideal S2048x128 .f32) (g0 g1 : FVec Ideal S2048 .f32) (w0 w1 : FVec Ideal S2048x128x256 .f32) (r : Fin 2048) (h : Fin 256) :
    mixT x g0 g1 w0 w1 (ix2 r h) = Ideal.div (g0 (ix1 r)) (g0 (ix1 r) + g1 (ix1 r)) * (∑ k, x (ix2 r k) * w0 (ix3 r k h))
      + Ideal.div (g1 (ix1 r)) (g0 (ix1 r) + g1 (ix1 r)) * ∑ k, x (ix2 r k) * w1 (ix3 r k h) := by
  pointwise [mixT]

variable (m : (ℓ : Loc nD τ sig) → Buf (Elt Ideal) ℓ) (c : Dev nD)

theorem res_eq : res_main_v76 m c =
    mixT (m (c.tc.loc main_arg0)) (gatesT lit0 (probsT (m (c.tc.loc main_arg0)) (m (c.tc.loc main_arg1))) (col0 (m (c.tc.loc main_arg2))))
      (gatesT lit1 (probsT (m (c.tc.loc main_arg0)) (m (c.tc.loc main_arg1))) (col1 (m (c.tc.loc main_arg2))))
      (matsT (m (c.tc.loc main_arg3)) (col0 (m (c.tc.loc main_arg2)))) (matsT (m (c.tc.loc main_arg3)) (col1 (m (c.tc.loc main_arg2)))) := rfl

/-- Entry `(r, h)` of the reference's result: the row's mixture. -/
theorem res_apply (r : Fin 2048) (h : Fin 256) : res_main_v76 m c (ix2 r h) =
    mixture (probs (scores (fun k => m (c.tc.loc main_arg0) (ix2 r k)) fun e k => m (c.tc.loc main_arg1) (ix2 k e)))
      (m (c.tc.loc main_arg2) (ix2 r 0)) (m (c.tc.loc main_arg2) (ix2 r 1)) (fun k => m (c.tc.loc main_arg0) (ix2 r k))
      fun e k => m (c.tc.loc main_arg3) (ix3 e k h) := by
  rw [res_eq, mixT_apply, gatesT_apply _ rfl rfl, gatesT_apply _ rfl rfl, (cols_apply _ r).1, (cols_apply _ r).2]
  simp only [matsT_apply, (cols_apply _ r).1, (cols_apply _ r).2, probsT_apply]
  rfl

end Cert.Moe.Reference

end
-- ==== Proof.Algebraic.lean ====
/-
The value claim: with finite tokens and a finite router, every device's result is its 256 rows of the reference's result.
-/
module

public import proofs.«01_k».proof.Proof.Frames
public import proofs.«01_k».proof.Proof.KernelValue
public import proofs.«01_k».proof.Proof.ReferenceValue
public import proofs.«01_k».proof.Proof.Gen.Pre_finite_KernelIdeal
public import proofs.«01_k».proof.Proof.Gen.Pre_finite_ReferenceIdeal
public import Idealize.ShloMosaic.Lib.ReduceAll

@[expose] public section

noncomputable section

namespace Cert.Moe

open Cert.KernelIdeal Cert.KernelIdeal.Gen
open Idealize.ShloMosaic Idealize.ShloMosaic.TcCoe Idealize.SL.Sem

attribute [local instance] Cert.Pre_finite_KernelIdeal.Gen.facts Cert.Pre_finite_ReferenceIdeal.Gen.facts Cert.ReferenceIdeal.Gen.facts

/-! ## The frames under the precondition -/

theorem frame_ideal_finite : Cert.quiescent_KernelIdeal_pre_finite_KernelIdeal := fun m ρ _ => frame_any (F := Ideal) m ρ

theorem frame_reference_finite : Cert.quiescent_ReferenceIdeal_pre_finite_ReferenceIdeal := fun m ρ _ => frame_reference m ρ trivial

/-! ## The precondition read -/

/-- A value below infinity in magnitude is real. -/
theorem real_of_test (x : EReal) (h : Ideal.cmp .olt (max x (-x)) (Ideal.ofBits .f32 0x7F800000#32) = 1#1) : ∃ v : ℝ, x = v := by
  have htop : Ideal.ofBits .f32 0x7F800000#32 = ⊤ := by simp [Ideal.ofBits, Ideal.ieee]
  rw [htop] at h
  induction x with
  | bot => exact absurd h (by simp [Ideal.cmp])
  | coe v => exact ⟨v, rfl⟩
  | top => exact absurd h (by simp [Ideal.cmp])

instance : Subsingleton Cert.Pre_finite_KernelIdeal.S_.Idx := ⟨fun _ _ => funext fun a => Fin.elim0 a⟩

theorem finite_read (x : FVec Ideal Cert.Pre_finite_KernelIdeal.S256x128 .f32) (w : FVec Ideal Cert.Pre_finite_KernelIdeal.S128x16 .f32)
    (i : IVec Cert.Pre_finite_KernelIdeal.S256x2 32) (t : FVec Ideal Cert.Pre_finite_KernelIdeal.S2x128x256 .f32)
    (h : Cert.Pre_finite_KernelIdeal.fn (F := Ideal) x w i t = fun _ => 1#1) : (∀ j, ∃ v : ℝ, x j = v) ∧ ∀ j, ∃ v : ℝ, w j = v := by
  obtain ⟨h0, h1⟩ := IntOp.andi_eq_one.1 (congrFun h (fun a => Fin.elim0 a))
  exact ⟨fun j => real_of_test _ (Host.reduce_andi_all _ _ _ _ _ h0 j), fun j => real_of_test _ (Host.reduce_andi_all _ _ _ _ _ h1 j)⟩

/-! ## The blocks at an index -/

/-- Row `r` of device `c`'s block. -/
def rowOf (c : Fin 8) (r : Fin 256) : Fin 2048 := ⟨c.val * 256 + r.val, by omega⟩

theorem block_rows {α : Type} {n : ℕ} (c : Fin 8) (v : (⟨2, ![2048, n]⟩ : Shape).Idx → α) (h : Layout.Tiles ⟨2, ![256, n]⟩ ⟨2, ![2048, n]⟩ 0 8) (r : Fin 256) (k : Fin n) :
    Layout.block ⟨2, ![256, n]⟩ ⟨2, ![2048, n]⟩ 0 8 c v h (ix2 r k) = v (ix2 (rowOf c r) k) :=
  congrArg v (funext fun a => Fin.ext (by
    match a with
    | ⟨0, _⟩ => rfl
    | ⟨1, _⟩ => rfl))

theorem block_table {α : Type} (c : Fin 8) (v : (⟨3, ![16, 128, 256]⟩ : Shape).Idx → α) (h : Layout.Tiles ⟨3, ![2, 128, 256]⟩ ⟨3, ![16, 128, 256]⟩ 0 8)
    (a : Fin 2) (k : Fin 128) (j : Fin 256) :
    Layout.block ⟨3, ![2, 128, 256]⟩ ⟨3, ![16, 128, 256]⟩ 0 8 c v h (ix3 a k j) = v (ix3 ⟨c.val * 2 + a.val, by omega⟩ k j) :=
  congrArg v (funext fun b => Fin.ext (by
    match b with
    | ⟨0, _⟩ => rfl
    | ⟨1, _⟩ => rfl
    | ⟨2, _⟩ => rfl))

/-! ## The claim -/

theorem algebraic : Cert.algebraic_KernelIdeal_ReferenceIdeal_pre_finite_KernelIdeal := fun m ρ m' ρ' hpre hargs => by
  refine ⟨Cert.ReferenceIdeal.Value.res_main_v76 m' 0, ?_, ?_⟩
  · refine (θ_run defs _ _).mono (fun r hr c => ⟨?_, (hr.1 c).2⟩) (run_read m ρ)
    refine (hr.1 c).1.trans ((finalA_out m ρ c).trans ?_)
    funext i
    obtain ⟨p, q, rfl⟩ : ∃ (p : Fin 256) (q : Fin 256), i = ix2 p q :=
      ⟨i 0, i 1, funext fun a => by match a with | ⟨0, _⟩ => rfl | ⟨1, _⟩ => rfl⟩
    have hx : ∀ k, m ((c : Thread nD τ).loc main_arg0) (ix2 p k) = m' (((0 : Dev Cert.ReferenceIdeal.nD) : Thread Cert.ReferenceIdeal.nD Cert.ReferenceIdeal.τ).loc Cert.ReferenceIdeal.main_arg0) (ix2 (rowOf c p) k) :=
      fun k => (congrFun (hargs c).1 (ix2 p k)).trans (block_rows c _ _ p k)
    have hw := (hargs c).2.1
    have hi : ∀ n, choice m c p n = m' (((0 : Dev Cert.ReferenceIdeal.nD) : Thread Cert.ReferenceIdeal.nD Cert.ReferenceIdeal.τ).loc Cert.ReferenceIdeal.main_arg2) (ix2 (rowOf c p) n) :=
      fun n => (congrFun (hargs c).2.2.1 (ix2 p n)).trans (block_rows c _ _ p n)
    have ht : ∀ (e : Fin 16) k, table m q e.val k = m' (((0 : Dev Cert.ReferenceIdeal.nD) : Thread Cert.ReferenceIdeal.nD Cert.ReferenceIdeal.τ).loc Cert.ReferenceIdeal.main_arg3) (ix3 e k q) := fun e k => by
      refine (congrFun (hargs ⟨e.val / 2 % 8, Nat.mod_lt _ (by decide)⟩).2.2.2 (ix3 ⟨e.val % 2, Nat.mod_lt _ (by decide)⟩ k q)).trans ((block_table _ _ _ _ k q).trans ?_)
      have he : (⟨e.val / 2 % 8 * 2 + e.val % 2, by omega⟩ : Fin 16) = e := Fin.ext (by show e.val / 2 % 8 * 2 + e.val % 2 = e.val; omega)
      exact congrArg (fun z : Fin 16 => m' (((0 : Dev Cert.ReferenceIdeal.nD) : Thread Cert.ReferenceIdeal.nD Cert.ReferenceIdeal.τ).loc Cert.ReferenceIdeal.main_arg3) (ix3 z k q)) he
    have hfin := finite_read _ _ _ _ (hpre c)
    have hp : ∀ e, ∃ v : ℝ, 0 < v ∧ rowProbs m c p e = v :=
      probs_pos fun e => score_real (fun k => hfin.1 (ix2 p k)) (fun k => hfin.2 (ix2 k e))
    refine (out_apply m ρ c p q hp).trans (Eq.trans ?_ ((block_rows c _ _ p q).trans (Reference.res_apply m' 0 (rowOf c p) q)).symm)
    have hprobs : rowProbs m c p = probs (scores (fun k => m' (((0 : Dev Cert.ReferenceIdeal.nD) : Thread Cert.ReferenceIdeal.nD Cert.ReferenceIdeal.τ).loc Cert.ReferenceIdeal.main_arg0) (ix2 (rowOf c p) k))
        fun e k => m' (((0 : Dev Cert.ReferenceIdeal.nD) : Thread Cert.ReferenceIdeal.nD Cert.ReferenceIdeal.τ).loc Cert.ReferenceIdeal.main_arg1) (ix2 k e)) := by
      unfold rowProbs
      exact congrArg probs (congrArg₂ scores (funext hx) (funext fun e => funext fun k => congrFun hw (ix2 k e)))
    rw [hprobs, hi 0, hi 1, funext hx, show (fun (e : Fin 16) k => table m q e.val k) = _ from funext fun e => funext fun k => ht e k]
  · exact (θ_run Cert.ReferenceIdeal.defs _ _).mono (fun r h => h 0) (Cert.ReferenceIdeal.Value.run (F := Ideal) m' ρ')

end Cert.Moe

end
-- ==== Proof.lean ====
/-
The certificate: the claims of Defs.lean, each proved in the modules under Proof/.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  Cert.Moe.frame_kernel, Cert.Moe.frame_ideal, Cert.Moe.frame_ideal_finite, Cert.Moe.frame_reference, Cert.Moe.frame_reference_finite, trivial,
  Cert.Moe.algebraic⟩

end Cert.Proof

end
